-- ==== Defs.lean ====
def Pre_Kernel [hPre_ids_in_vocab : Cert.Pre_ids_in_vocab.Facts] (m : (ℓ : Loc Cert.Kernel.nD Cert.Kernel.τ Cert.Kernel.sig) → Buf (Elt Bits) ℓ) : Prop :=
  ∀ c : Dev Cert.Kernel.nD,
    (Cert.Pre_ids_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_vocab : Cert.Pre_ids_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_vocab [hPre_ids_in_vocab : Cert.Pre_ids_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_vocab : Cert.Pre_ids_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_vocab [hReferenceIdeal : Cert.ReferenceIdeal.Facts] [hPre_ids_in_vocab : Cert.Pre_ids_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_vocab : Cert.Pre_ids_in_vocab.Facts),
    quiescent_Kernel (hKernel := hKernel) (hPre_ids_in_vocab := hPre_ids_in_vocab)
    ∧ quiescent_KernelIdeal (hKernelIdeal := hKernelIdeal) (hPre_ids_in_vocab := hPre_ids_in_vocab)
    ∧ quiescent_ReferenceIdeal (hReferenceIdeal := hReferenceIdeal)
    ∧ quiescent_ReferenceIdeal_pre_ids_in_vocab (hReferenceIdeal := hReferenceIdeal) (hPre_ids_in_vocab := hPre_ids_in_vocab)
    ∧ preserves_Kernel_KernelIdeal
    ∧ algebraic_KernelIdeal_ReferenceIdeal (hKernelIdeal := hKernelIdeal) (hReferenceIdeal := hReferenceIdeal) (hPre_ids_in_vocab := hPre_ids_in_vocab)
-- ==== Pre_ids_in_vocab.lean ====
abbrev S1024 : Shape := ⟨1, ![1024]⟩
abbrev S100000x64 : Shape := ⟨2, ![100000, 64]⟩
abbrev S100000 : Shape := ⟨1, ![100000]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S100000x64 .f32) (main_arg2 : FVec F S100000x64 .f32) (main_arg3 : FVec F S100000 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 100000#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024 : Shape := ⟨1, ![1024]⟩
abbrev S100000x64 : Shape := ⟨2, ![100000, 64]⟩
abbrev S100000 : Shape := ⟨1, ![100000]⟩
abbrev S1024x64 : Shape := ⟨2, ![1024, 64]⟩
abbrev S512 : Shape := ⟨1, ![512]⟩
abbrev S_ : Shape := ⟨0, ![]⟩
abbrev S1 : Shape := ⟨1, ![1]⟩
abbrev S1x64 : Shape := ⟨2, ![1, 64]⟩
abbrev S1x100000 : Shape := ⟨2, ![1, 100000]⟩
abbrev S64x100000 : Shape := ⟨2, ![64, 100000]⟩
abbrev S100000x1024 : Shape := ⟨2, ![100000, 1024]⟩
abbrev S64x4096 : Shape := ⟨2, ![64, 4096]⟩
abbrev S1x4096 : Shape := ⟨2, ![1, 4096]⟩
abbrev S4096x1024 : Shape := ⟨2, ![4096, 1024]⟩
abbrev S4096x1 : Shape := ⟨2, ![4096, 1]⟩
abbrev S1024x100000 : Shape := ⟨2, ![1024, 100000]⟩

abbrev nBuf : Table → Nat
  | .hbm => 9
  | .local .tc .vmem => 7
  | .local .scScalar .smem => 1
  | _ => 0

abbrev bufTy : (tb : Table) → Fin (nBuf tb) → BufTy
  | .hbm, ⟨0, _⟩ => ⟨S1024, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S1024x64, .f32⟩
  | .hbm, ⟨5, _⟩ => ⟨S1x100000, .f32⟩
  | .hbm, ⟨6, _⟩ => ⟨S64x100000, .f32⟩
  | .hbm, ⟨7, _⟩ => ⟨S100000x1024, .f32⟩
  | .hbm, ⟨8, _⟩ => ⟨S1024x100000, .f32⟩
  | .local .tc .vmem, ⟨0, _⟩ => ⟨S64x4096, .f32⟩
  | .local .tc .vmem, ⟨1, _⟩ => ⟨S64x4096, .f32⟩
  | .local .tc .vmem, ⟨2, _⟩ => ⟨S1024x64, .f32⟩
  | .local .tc .vmem, ⟨3, _⟩ => ⟨S1x4096, .f32⟩
  | .local .tc .vmem, ⟨4, _⟩ => ⟨S1x4096, .f32⟩
  | .local .tc .vmem, ⟨5, _⟩ => ⟨S4096x1024, .f32⟩
  | .local .tc .vmem, ⟨6, _⟩ => ⟨S4096x1024, .f32⟩
  | .local .scScalar .smem, ⟨0, _⟩ => ⟨S512, .i32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg1_scs : Ref sig .scScalar := ⟨.hbm, 1, rfl⟩
abbrev main_arg0_scs : Ref sig .scScalar := ⟨.hbm, 0, rfl⟩
abbrev main_v0_scs : Ref sig .scScalar := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc0_scratch0 : Ref sig .scScalar := ⟨.smem, 0, rfl⟩
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) : Fin 1 → Nat :=
  let arg0 : BitVec 32 := BitVec.ofNat 32 (i 0).val
  let c512_i32 : BitVec 32 := 512#32
  let v0 : BitVec 32 := Scalar.muli arg0 c512_i32
  ![v0.toNat]
@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_off2 (k0_t1 : Fin k0_t1_loop.trips) : Fin 1 → Nat :=
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let c0_i32_6 : BitVec 32 := 0#32
  let v7 : BitVec 32 := Scalar.addi v6 c0_i32_6
  let v8 : Index := Scalar.indexCast v7
  ![v8.toNat]
def k0_off3 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let v10 : BitVec 32 := Scalar.addi v0 v6
  let c0_i32_7 : BitVec 32 := 0#32
  let v11 : BitVec 32 := Scalar.addi v10 c0_i32_7
  let c0_i32_8 : BitVec 32 := 0#32
  ![v11.toNat, 0]
def k0_off4 (v9 : BitVec 32) : Fin 2 → Nat :=
  let c0_i32_9 : BitVec 32 := 0#32
  ![v9.toNat, 0]

def k0_chk1 (v9 : BitVec 32) : Prop :=
  (∀ a, (k0_off4 v9) a + S1x64.size a ≤ S100000x64.size a)
theorem k0_off4_inb : ∀ (v9 : BitVec 32) (k0_hw1 : k0_chk1 v9), ∀ a, (k0_off4 v9) a + S1x64.size a ≤ S100000x64.size a := fun v9 k0_hw1 => k0_hw1

def k0_off5 (k0_t1 : Fin k0_t1_loop.trips) : Fin 1 → Nat :=
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let c1_i32_10 : BitVec 32 := 1#32
  let v14 : BitVec 32 := Scalar.addi v6 c1_i32_10
  let v15 : Index := Scalar.indexCast v14
  ![v15.toNat]
def k0_off6 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let v17 : BitVec 32 := Scalar.addi v0 v6
  let c1_i32_11 : BitVec 32 := 1#32
  let v18 : BitVec 32 := Scalar.addi v17 c1_i32_11
  let c0_i32_12 : BitVec 32 := 0#32
  ![v18.toNat, 0]
def k0_off7 (v16 : BitVec 32) : Fin 2 → Nat :=
  let c0_i32_13 : BitVec 32 := 0#32
  ![v16.toNat, 0]

def k0_chk2 (v16 : BitVec 32) : Prop :=
  (∀ a, (k0_off7 v16) a + S1x64.size a ≤ S100000x64.size a)
theorem k0_off7_inb : ∀ (v16 : BitVec 32) (k0_hw2 : k0_chk2 v16), ∀ a, (k0_off7 v16) a + S1x64.size a ≤ S100000x64.size a := fun v16 k0_hw2 => k0_hw2

def k0_off8 (k0_t1 : Fin k0_t1_loop.trips) : Fin 1 → Nat :=
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let c2_i32 : BitVec 32 := 2#32
  let v21 : BitVec 32 := Scalar.addi v6 c2_i32
  let v22 : Index := Scalar.indexCast v21
  ![v22.toNat]
def k0_off9 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let v24 : BitVec 32 := Scalar.addi v0 v6
  let c2_i32_14 : BitVec 32 := 2#32
  let v25 : BitVec 32 := Scalar.addi v24 c2_i32_14
  let c0_i32_15 : BitVec 32 := 0#32
  ![v25.toNat, 0]
def k0_off10 (v23 : BitVec 32) : Fin 2 → Nat :=
  let c0_i32_16 : BitVec 32 := 0#32
  ![v23.toNat, 0]

def k0_chk3 (v23 : BitVec 32) : Prop :=
  (∀ a, (k0_off10 v23) a + S1x64.size a ≤ S100000x64.size a)
theorem k0_off10_inb : ∀ (v23 : BitVec 32) (k0_hw3 : k0_chk3 v23), ∀ a, (k0_off10 v23) a + S1x64.size a ≤ S100000x64.size a := fun v23 k0_hw3 => k0_hw3

def k0_off11 (k0_t1 : Fin k0_t1_loop.trips) : Fin 1 → Nat :=
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let c3_i32 : BitVec 32 := 3#32
  let v28 : BitVec 32 := Scalar.addi v6 c3_i32
  let v29 : Index := Scalar.indexCast v28
  ![v29.toNat]
def k0_off12 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let v31 : BitVec 32 := Scalar.addi v0 v6
  let c3_i32_17 : BitVec 32 := 3#32
  let v32 : BitVec 32 := Scalar.addi v31 c3_i32_17
  let c0_i32_18 : BitVec 32 := 0#32
  ![v32.toNat, 0]
def k0_off13 (v30 : BitVec 32) : Fin 2 → Nat :=
  let c0_i32_19 : BitVec 32 := 0#32
  ![v30.toNat, 0]

def k0_chk4 (v30 : BitVec 32) : Prop :=
  (∀ a, (k0_off13 v30) a + S1x64.size a ≤ S100000x64.size a)
theorem k0_off13_inb : ∀ (v30 : BitVec 32) (k0_hw4 : k0_chk4 v30), ∀ a, (k0_off13 v30) a + S1x64.size a ≤ S100000x64.size a := fun v30 k0_hw4 => k0_hw4

def k0_off14 (k0_t1 : Fin k0_t1_loop.trips) : Fin 1 → Nat :=
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let c4_i32 : BitVec 32 := 4#32
  let v35 : BitVec 32 := Scalar.addi v6 c4_i32
  let v36 : Index := Scalar.indexCast v35
  ![v36.toNat]
def k0_off15 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let v38 : BitVec 32 := Scalar.addi v0 v6
  let c4_i32_20 : BitVec 32 := 4#32
  let v39 : BitVec 32 := Scalar.addi v38 c4_i32_20
  let c0_i32_21 : BitVec 32 := 0#32
  ![v39.toNat, 0]
def k0_off16 (v37 : BitVec 32) : Fin 2 → Nat :=
  let c0_i32_22 : BitVec 32 := 0#32
  ![v37.toNat, 0]

def k0_chk5 (v37 : BitVec 32) : Prop :=
  (∀ a, (k0_off16 v37) a + S1x64.size a ≤ S100000x64.size a)
theorem k0_off16_inb : ∀ (v37 : BitVec 32) (k0_hw5 : k0_chk5 v37), ∀ a, (k0_off16 v37) a + S1x64.size a ≤ S100000x64.size a := fun v37 k0_hw5 => k0_hw5

def k0_off17 (k0_t1 : Fin k0_t1_loop.trips) : Fin 1 → Nat :=
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let c5_i32 : BitVec 32 := 5#32
  let v42 : BitVec 32 := Scalar.addi v6 c5_i32
  let v43 : Index := Scalar.indexCast v42
  ![v43.toNat]
def k0_off18 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let v45 : BitVec 32 := Scalar.addi v0 v6
  let c5_i32_23 : BitVec 32 := 5#32
  let v46 : BitVec 32 := Scalar.addi v45 c5_i32_23
  let c0_i32_24 : BitVec 32 := 0#32
  ![v46.toNat, 0]
def k0_off19 (v44 : BitVec 32) : Fin 2 → Nat :=
  let c0_i32_25 : BitVec 32 := 0#32
  ![v44.toNat, 0]

def k0_chk6 (v44 : BitVec 32) : Prop :=
  (∀ a, (k0_off19 v44) a + S1x64.size a ≤ S100000x64.size a)
theorem k0_off19_inb : ∀ (v44 : BitVec 32) (k0_hw6 : k0_chk6 v44), ∀ a, (k0_off19 v44) a + S1x64.size a ≤ S100000x64.size a := fun v44 k0_hw6 => k0_hw6

def k0_off20 (k0_t1 : Fin k0_t1_loop.trips) : Fin 1 → Nat :=
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let c6_i32 : BitVec 32 := 6#32
  let v49 : BitVec 32 := Scalar.addi v6 c6_i32
  let v50 : Index := Scalar.indexCast v49
  ![v50.toNat]
def k0_off21 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let v52 : BitVec 32 := Scalar.addi v0 v6
  let c6_i32_26 : BitVec 32 := 6#32
  let v53 : BitVec 32 := Scalar.addi v52 c6_i32_26
  let c0_i32_27 : BitVec 32 := 0#32
  ![v53.toNat, 0]
def k0_off22 (v51 : BitVec 32) : Fin 2 → Nat :=
  let c0_i32_28 : BitVec 32 := 0#32
  ![v51.toNat, 0]

def k0_chk7 (v51 : BitVec 32) : Prop :=
  (∀ a, (k0_off22 v51) a + S1x64.size a ≤ S100000x64.size a)
theorem k0_off22_inb : ∀ (v51 : BitVec 32) (k0_hw7 : k0_chk7 v51), ∀ a, (k0_off22 v51) a + S1x64.size a ≤ S100000x64.size a := fun v51 k0_hw7 => k0_hw7

def k0_off23 (k0_t1 : Fin k0_t1_loop.trips) : Fin 1 → Nat :=
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let c7_i32 : BitVec 32 := 7#32
  let v56 : BitVec 32 := Scalar.addi v6 c7_i32
  let v57 : Index := Scalar.indexCast v56
  ![v57.toNat]
def k0_off24 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let v59 : BitVec 32 := Scalar.addi v0 v6
  let c7_i32_29 : BitVec 32 := 7#32
  let v60 : BitVec 32 := Scalar.addi v59 c7_i32_29
  let c0_i32_30 : BitVec 32 := 0#32
  ![v60.toNat, 0]
def k0_off25 (v58 : BitVec 32) : Fin 2 → Nat :=
  let c0_i32_31 : BitVec 32 := 0#32
  ![v58.toNat, 0]

def k0_chk8 (v58 : BitVec 32) : Prop :=
  (∀ a, (k0_off25 v58) a + S1x64.size a ≤ S100000x64.size a)
theorem k0_off25_inb : ∀ (v58 : BitVec 32) (k0_hw8 : k0_chk8 v58), ∀ a, (k0_off25 v58) a + S1x64.size a ≤ S100000x64.size a := fun v58 k0_hw8 => k0_hw8

def k0_off26 (k0_t1 : Fin k0_t1_loop.trips) : Fin 1 → Nat :=
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let c8_i32 : BitVec 32 := 8#32
  let v63 : BitVec 32 := Scalar.addi v6 c8_i32
  let v64 : Index := Scalar.indexCast v63
  ![v64.toNat]
def k0_off27 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let v66 : BitVec 32 := Scalar.addi v0 v6
  let c8_i32_32 : BitVec 32 := 8#32
  let v67 : BitVec 32 := Scalar.addi v66 c8_i32_32
  let c0_i32_33 : BitVec 32 := 0#32
  ![v67.toNat, 0]
def k0_off28 (v65 : BitVec 32) : Fin 2 → Nat :=
  let c0_i32_34 : BitVec 32 := 0#32
  ![v65.toNat, 0]

def k0_chk9 (v65 : BitVec 32) : Prop :=
  (∀ a, (k0_off28 v65) a + S1x64.size a ≤ S100000x64.size a)
theorem k0_off28_inb : ∀ (v65 : BitVec 32) (k0_hw9 : k0_chk9 v65), ∀ a, (k0_off28 v65) a + S1x64.size a ≤ S100000x64.size a := fun v65 k0_hw9 => k0_hw9

def k0_off29 (k0_t1 : Fin k0_t1_loop.trips) : Fin 1 → Nat :=
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let c9_i32 : BitVec 32 := 9#32
  let v70 : BitVec 32 := Scalar.addi v6 c9_i32
  let v71 : Index := Scalar.indexCast v70
  ![v71.toNat]
def k0_off30 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let v73 : BitVec 32 := Scalar.addi v0 v6
  let c9_i32_35 : BitVec 32 := 9#32
  let v74 : BitVec 32 := Scalar.addi v73 c9_i32_35
  let c0_i32_36 : BitVec 32 := 0#32
  ![v74.toNat, 0]
def k0_off31 (v72 : BitVec 32) : Fin 2 → Nat :=
  let c0_i32_37 : BitVec 32 := 0#32
  ![v72.toNat, 0]

def k0_chk10 (v72 : BitVec 32) : Prop :=
  (∀ a, (k0_off31 v72) a + S1x64.size a ≤ S100000x64.size a)
theorem k0_off31_inb : ∀ (v72 : BitVec 32) (k0_hw10 : k0_chk10 v72), ∀ a, (k0_off31 v72) a + S1x64.size a ≤ S100000x64.size a := fun v72 k0_hw10 => k0_hw10

def k0_off32 (k0_t1 : Fin k0_t1_loop.trips) : Fin 1 → Nat :=
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let c10_i32 : BitVec 32 := 10#32
  let v77 : BitVec 32 := Scalar.addi v6 c10_i32
  let v78 : Index := Scalar.indexCast v77
  ![v78.toNat]
def k0_off33 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let v80 : BitVec 32 := Scalar.addi v0 v6
  let c10_i32_38 : BitVec 32 := 10#32
  let v81 : BitVec 32 := Scalar.addi v80 c10_i32_38
  let c0_i32_39 : BitVec 32 := 0#32
  ![v81.toNat, 0]
def k0_off34 (v79 : BitVec 32) : Fin 2 → Nat :=
  let c0_i32_40 : BitVec 32 := 0#32
  ![v79.toNat, 0]

def k0_chk11 (v79 : BitVec 32) : Prop :=
  (∀ a, (k0_off34 v79) a + S1x64.size a ≤ S100000x64.size a)
theorem k0_off34_inb : ∀ (v79 : BitVec 32) (k0_hw11 : k0_chk11 v79), ∀ a, (k0_off34 v79) a + S1x64.size a ≤ S100000x64.size a := fun v79 k0_hw11 => k0_hw11

def k0_off35 (k0_t1 : Fin k0_t1_loop.trips) : Fin 1 → Nat :=
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let c11_i32 : BitVec 32 := 11#32
  let v84 : BitVec 32 := Scalar.addi v6 c11_i32
  let v85 : Index := Scalar.indexCast v84
  ![v85.toNat]
def k0_off36 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let v87 : BitVec 32 := Scalar.addi v0 v6
  let c11_i32_41 : BitVec 32 := 11#32
  let v88 : BitVec 32 := Scalar.addi v87 c11_i32_41
  let c0_i32_42 : BitVec 32 := 0#32
  ![v88.toNat, 0]
def k0_off37 (v86 : BitVec 32) : Fin 2 → Nat :=
  let c0_i32_43 : BitVec 32 := 0#32
  ![v86.toNat, 0]

def k0_chk12 (v86 : BitVec 32) : Prop :=
  (∀ a, (k0_off37 v86) a + S1x64.size a ≤ S100000x64.size a)
theorem k0_off37_inb : ∀ (v86 : BitVec 32) (k0_hw12 : k0_chk12 v86), ∀ a, (k0_off37 v86) a + S1x64.size a ≤ S100000x64.size a := fun v86 k0_hw12 => k0_hw12

def k0_off38 (k0_t1 : Fin k0_t1_loop.trips) : Fin 1 → Nat :=
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let c12_i32 : BitVec 32 := 12#32
  let v91 : BitVec 32 := Scalar.addi v6 c12_i32
  let v92 : Index := Scalar.indexCast v91
  ![v92.toNat]
def k0_off39 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let v94 : BitVec 32 := Scalar.addi v0 v6
  let c12_i32_44 : BitVec 32 := 12#32
  let v95 : BitVec 32 := Scalar.addi v94 c12_i32_44
  let c0_i32_45 : BitVec 32 := 0#32
  ![v95.toNat, 0]
def k0_off40 (v93 : BitVec 32) : Fin 2 → Nat :=
  let c0_i32_46 : BitVec 32 := 0#32
  ![v93.toNat, 0]

def k0_chk13 (v93 : BitVec 32) : Prop :=
  (∀ a, (k0_off40 v93) a + S1x64.size a ≤ S100000x64.size a)
theorem k0_off40_inb : ∀ (v93 : BitVec 32) (k0_hw13 : k0_chk13 v93), ∀ a, (k0_off40 v93) a + S1x64.size a ≤ S100000x64.size a := fun v93 k0_hw13 => k0_hw13

def k0_off41 (k0_t1 : Fin k0_t1_loop.trips) : Fin 1 → Nat :=
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let c13_i32 : BitVec 32 := 13#32
  let v98 : BitVec 32 := Scalar.addi v6 c13_i32
  let v99 : Index := Scalar.indexCast v98
  ![v99.toNat]
def k0_off42 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let v101 : BitVec 32 := Scalar.addi v0 v6
  let c13_i32_47 : BitVec 32 := 13#32
  let v102 : BitVec 32 := Scalar.addi v101 c13_i32_47
  let c0_i32_48 : BitVec 32 := 0#32
  ![v102.toNat, 0]
def k0_off43 (v100 : BitVec 32) : Fin 2 → Nat :=
  let c0_i32_49 : BitVec 32 := 0#32
  ![v100.toNat, 0]

def k0_chk14 (v100 : BitVec 32) : Prop :=
  (∀ a, (k0_off43 v100) a + S1x64.size a ≤ S100000x64.size a)
theorem k0_off43_inb : ∀ (v100 : BitVec 32) (k0_hw14 : k0_chk14 v100), ∀ a, (k0_off43 v100) a + S1x64.size a ≤ S100000x64.size a := fun v100 k0_hw14 => k0_hw14

def k0_off44 (k0_t1 : Fin k0_t1_loop.trips) : Fin 1 → Nat :=
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let c14_i32 : BitVec 32 := 14#32
  let v105 : BitVec 32 := Scalar.addi v6 c14_i32
  let v106 : Index := Scalar.indexCast v105
  ![v106.toNat]
def k0_off45 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let v108 : BitVec 32 := Scalar.addi v0 v6
  let c14_i32_50 : BitVec 32 := 14#32
  let v109 : BitVec 32 := Scalar.addi v108 c14_i32_50
  let c0_i32_51 : BitVec 32 := 0#32
  ![v109.toNat, 0]
def k0_off46 (v107 : BitVec 32) : Fin 2 → Nat :=
  let c0_i32_52 : BitVec 32 := 0#32
  ![v107.toNat, 0]

def k0_chk15 (v107 : BitVec 32) : Prop :=
  (∀ a, (k0_off46 v107) a + S1x64.size a ≤ S100000x64.size a)
theorem k0_off46_inb : ∀ (v107 : BitVec 32) (k0_hw15 : k0_chk15 v107), ∀ a, (k0_off46 v107) a + S1x64.size a ≤ S100000x64.size a := fun v107 k0_hw15 => k0_hw15

def k0_off47 (k0_t1 : Fin k0_t1_loop.trips) : Fin 1 → Nat :=
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let c15_i32 : BitVec 32 := 15#32
  let v112 : BitVec 32 := Scalar.addi v6 c15_i32
  let v113 : Index := Scalar.indexCast v112
  ![v113.toNat]
def k0_off48 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32_5 : BitVec 32 := 0#32
  let c0_i32 : BitVec 32 := 0#32
  let c1_i32 : BitVec 32 := 1#32
  let arg7 : BitVec 32 := Scf.iv c0_i32 c1_i32 k0_t1
  let c16_i32 : BitVec 32 := 16#32
  let v5 : BitVec 32 := Scalar.muli arg7 c16_i32
  let v6 : BitVec 32 := Scalar.addi c0_i32_5 v5
  let v115 : BitVec 32 := Scalar.addi v0 v6
  let c15_i32_53 : BitVec 32 := 15#32
  let v116 : BitVec 32 := Scalar.addi v115 c15_i32_53
  let c0_i32_54 : BitVec 32 := 0#32
  ![v116.toNat, 0]
def k0_off49 (v114 : BitVec 32) : Fin 2 → Nat :=
  let c0_i32_55 : BitVec 32 := 0#32
  ![v114.toNat, 0]

def k0_chk16 (v114 : BitVec 32) : Prop :=
  (∀ a, (k0_off49 v114) a + S1x64.size a ≤ S100000x64.size a)
theorem k0_off49_inb : ∀ (v114 : BitVec 32) (k0_hw16 : k0_chk16 v114), ∀ a, (k0_off49 v114) a + S1x64.size a ≤ S100000x64.size a := fun v114 k0_hw16 => k0_hw16

@[reducible] def k0_t2_loop : Scf.Loop 32 :=
  let c0_i32_1 : BitVec 32 := 0#32
  let c32_i32_2 : BitVec 32 := 32#32
  let v4 : BitVec 32 := Scalar.addi c0_i32_1 c32_i32_2
  let c1_i32_3 : BitVec 32 := 1#32
  ⟨c0_i32_1, v4, c1_i32_3⟩
def k0_off50 (i : grid0.Coords) (k0_t2 : Fin k0_t2_loop.trips) (c0_i32_6 : BitVec 32) : Fin 2 → Nat :=
  let arg0 : BitVec 32 := BitVec.ofNat 32 (i 0).val
  let c512_i32 : BitVec 32 := 512#32
  let v0 : BitVec 32 := Scalar.muli arg0 c512_i32
  let c0_i32_5 : BitVec 32 := 0#32
  let c0_i32_1 : BitVec 32 := 0#32
  let c1_i32_3 : BitVec 32 := 1#32
  let arg7 : BitVec 32 := Scf.iv c0_i32_1 c1_i32_3 k0_t2
  let c16_i32 : BitVec 32 := 16#32
  let v5 : BitVec 32 := Scalar.muli arg7 c16_i32
  let v6 : BitVec 32 := Scalar.addi c0_i32_5 v5
  let v7 : BitVec 32 := Scalar.addi v0 v6
  let v8 : BitVec 32 := Scalar.addi v7 c0_i32_6
  let c0_i32_7 : BitVec 32 := 0#32
  ![v8.toNat, 0]
abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S1024 : Shape := ⟨1, ![1024]⟩
abbrev S100000x64 : Shape := ⟨2, ![100000, 64]⟩
abbrev S100000 : Shape := ⟨1, ![100000]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x64 : Shape := ⟨2, ![1024, 64]⟩
abbrev S64x100000 : Shape := ⟨2, ![64, 100000]⟩
abbrev S1024x100000 : Shape := ⟨2, ![1024, 100000]⟩
abbrev S1x100000 : Shape := ⟨2, ![1, 100000]⟩

abbrev nBuf : Space → Nat
  | .hbm => 32
  | .vmem => 0
  | .smem => 0
  | _ => 0

abbrev bufTy : (tb : Table) → Fin (tcTables nBuf tb) → BufTy
  | .hbm, ⟨0, _⟩ => ⟨S1024, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1, .i32⟩
  | .hbm, ⟨13, _⟩ => ⟨S_, .i32⟩
  | .hbm, ⟨14, _⟩ => ⟨S1024x1, .i32⟩
  | .hbm, ⟨15, _⟩ => ⟨S1024x1, .i1⟩
  | .hbm, ⟨16, _⟩ => ⟨S1x1, .i32⟩
  | .hbm, ⟨17, _⟩ => ⟨S1024x1, .i32⟩
  | .hbm, ⟨18, _⟩ => ⟨S1024x1, .i1⟩
  | .hbm, ⟨19, _⟩ => ⟨S1024x1, .i1⟩
  | .hbm, ⟨20, _⟩ => ⟨S_, .i1⟩
  | .hbm, ⟨21, _⟩ => ⟨S1024, .i1⟩
  | .hbm, ⟨22, _⟩ => ⟨S1024x64, .f32⟩
  | .hbm, ⟨23, _⟩ => ⟨S1024x64, .i1⟩
  | .hbm, ⟨24, _⟩ => ⟨S_, .f32⟩
  | .hbm, ⟨25, _⟩ => ⟨S1024x64, .f32⟩
  | .hbm, ⟨26, _⟩ => ⟨S1024x64, .f32⟩
  | .hbm, ⟨27, _⟩ => ⟨S64x100000, .f32⟩
  | .hbm, ⟨28, _⟩ => ⟨S1024x100000, .f32⟩
  | .hbm, ⟨29, _⟩ => ⟨S1x100000, .f32⟩
  | .hbm, ⟨30, _⟩ => ⟨S1024x100000, .f32⟩
  | .hbm, ⟨31, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩

abbrev nD : Nat := 1
abbrev τ : Topo := Topo.v7x

variable {F : FTy → Type} [FloatOps F]
-- ==== Proof.Setup.lean ====
/-
  What the proof of the frame stands on: the program as the launch theorem reads it, the resource algebra, the launch
  contents, the array the SparseCores gather, and what the scalar call hands each SparseCore and takes back.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Batch
public import Idealize.ShloMosaic.Lib.ShareLeaves
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the TensorCore's program: the kernels' own and the one pipelined region's. -/
abbrev ΛP : Labels := Pipeline.Sig Λ₀ (Fin 1) fun p => (pcfgs (F := F) p).Adm
/-- The SparseCore launch configuration of the one scalar call. -/
abbrev K : SparseCore.Cfg τ sig (ΛP (F := F)) 1 := sc (F := F)
/-- The definitions the launch is made over: the kernels' bodies and the pipelined region. -/
abbrev D [FloatOps F] : Defs nD τ sig (Elt F) (ΛP (F := F)) := Pipeline.defs pcfgs defs₀
/-- The kernels' bodies need no variant. -/
abbrev 𝒱₀ : Variants := Variants.none
/-- Nor do the launch's. -/
abbrev 𝒱 : Variants := 𝒱₀.lift
/-- The one variant there is. -/
abbrev v₀ : 𝒱.V := Sum.inl none

/-- The launch's semaphores are of the scopes the launch theorem wants, each by a look at the signature. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelined region's rounds, the transfers' counters -/

/-- The handshakes' rounds. -/
abbrev UH : Type := URounds (GSem nD τ sig) ℕ
/-- The algebra's factors. -/
abbrev UU : Type := UH × (UR sig nD τ × Counters)

local notation "𝕄" => MT nD τ sig (HIx 1) (Elt F) ℕ UU ℕ

/-- The handshakes' rounds are the algebra's first factor. -/
abbrev EH : Emb UH (MT nD τ sig (HIx 1) (Elt F) ℕ UU ℕ) := embL
/-- The pipelined region's rounds are its second. -/
abbrev EP : Emb (UR sig nD τ) (MT nD τ sig (HIx 1) (Elt F) ℕ UU ℕ) :=
  (Emb.inl : Emb (UR sig nD τ) (UR sig nD τ × Counters)).trans (embR : Emb (UR sig nD τ × Counters) (MT nD τ sig (HIx 1) (Elt F) ℕ (UH × (UR sig nD τ × Counters)) ℕ))

/-- The region's rounds may be stored. -/
instance EP_landsIn : (EP : Emb (UR sig nD τ) 𝕄).LandsIn (upEmb : UEmb _ 𝕄) := by unfold EP embR; infer_instance

/-! ## The launch memory and the buffers -/

variable (m : (ℓ : Loc nD τ sig) → Buf (Elt F) ℓ) (ρ : Dev nD → PrngReg)

/-- The indices, the table, the gathered rows: the buffers of device `d` that the SparseCores touch. -/
abbrev iLoc (d : Dev nD) : Loc nD τ sig := (SparseCore.T d).loc main_arg0
/-- The table. -/
abbrev tLoc (d : Dev nD) : Loc nD τ sig := (SparseCore.T d).loc main_arg1
/-- The gathered rows. -/
abbrev oLoc (d : Dev nD) : Loc nD τ sig := (SparseCore.T d).loc main_v0

/-- Index `n` of the 1024 indices. -/
def iIdx (n : ℕ) (hn : n < 1024) : S1024.Idx := fun a => match a with | ⟨0, _⟩ => ⟨n, hn⟩
/-- Row `n`, column `k` of the table. -/
def tIdx (n : ℕ) (hn : n < 100000) (k : Fin 64) : S100000x64.Idx := fun a => match a with | ⟨0, _⟩ => ⟨n, hn⟩ | ⟨1, _⟩ => k

/-- The launch value of index `n`. -/
def idv (d : Dev nD) (n : ℕ) (hn : n < 1024) : BitVec 32 := (m (iLoc d) : S1024.Idx → BitVec 32) (iIdx n hn)

/-- Every index names a row of the table. -/
def PreOK : Prop := ∀ (d : Dev nD) (n : ℕ) (hn : n < 1024), (idv m d n hn).toNat < 100000

/-- The gathered array: row `n` is the table's row at index `n` (the last row for an index past the end, which
    `PreOK` excludes). -/
def gath (d : Dev nD) : Buf (Elt F) (oLoc d) :=
  fun j : S1024x64.Idx => (m (tLoc d) : S100000x64.Idx → Elt F .f32)
    (tIdx (min (idv m d (j 0).val (j 0).isLt).toNat 99999) (by omega) (j 1))

/-- SparseCore `n`'s half of the gathered rows: rows `512·n` to `512·n + 511`. -/
def half (n : ℕ) : Finset S1024x64.Idx := Finset.univ.filter fun j => 512 * n ≤ (j 0).val ∧ (j 0).val < 512 * (n + 1)

/-- SparseCore `n`'s share of what both SparseCores read. -/
def shareC (n : ℕ) : PosShare TreeShare := if n = 0 then fullShare.left else fullShare.right

/-- What the call hands SparseCore `c`: a share of the indices and of the table, and its half of the gathered rows, at
    their launch contents; what it takes back: the same with its half of the rows gathered. -/
def P : (K (F := F)).Pay (nD := nD) (Val := Elt F) (Name := ℕ) (U := UU) where
  st := fun _ d c => iprop((iLoc d ↦{shareC c.val} m (iLoc d)) ∗ (tLoc d ↦{shareC c.val} m (tLoc d)) ∗ (oLoc d ↦[half c.val]{fullShare} m (oLoc d)))
  dn := fun _ d c => iprop((iLoc d ↦{shareC c.val} m (iLoc d)) ∗ (tLoc d ↦{shareC c.val} m (tLoc d)) ∗ (oLoc d ↦[half c.val]{fullShare} gath m d))
  go := fun _ _ _ _ => iprop(emp)
  td := fun _ _ _ _ => iprop(emp)
  x := fun _ _ => iprop(emp)

/-- What the handshakes carry may be stored. -/
instance P_storable : (P (F := F) m).IsStorable where
  st _ d c := by unfold P; infer_instance
  dn _ d c := by unfold P; infer_instance
  go _ _ _ _ := by unfold P; infer_instance
  td _ _ _ _ := by unfold P; infer_instance

end Cert.Proof

end
-- ==== Proof.Rows.lean ====
/-
  One row of the gather on a SparseCore's sequencer: the load of the row's index from the scalar memory, the check that
  it names a row of the table, the issue of the row's copy onto the one semaphore all 512 copies complete on, and the
  wait for one row's units.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.Transfers (Batch pending)

variable {F : FTy → Type}

local notation "𝕄" => MT nD τ sig (HIx 1) (Elt F) ℕ UU ℕ
variable (m : (ℓ : Loc nD τ sig) → Buf (Elt F) ℓ)

/-- The indices, as the body is given it. -/
abbrev iW : Memref sig .scScalar .hbm S1024 .i32 := Memref.whole main_arg0_scs
/-- The table, as the body is given it. -/
abbrev tW : Memref sig .scScalar .hbm S100000x64 .f32 := Memref.whole main_arg1_scs
/-- The gathered rows, as the body is given it. -/
abbrev oW : Memref sig .scScalar .hbm S1024x64 .f32 := Memref.whole main_v0_scs
/-- The scalar scratch, as the body is given it. -/
abbrev sW : Memref sig .scScalar .smem S512 .i32 := Memref.whole cc0_scratch0

variable [FloatOps F] (d : Dev nD) (c : Fin (grid0.bound 0))

/-- SparseCore `c`'s grid coordinates, and its sequencer thread. -/
def coordsS (c : Fin (grid0.bound 0)) : grid0.Coords := fun | 0 => c | ⟨_ + 1, h⟩ => absurd h (Nat.not_lt.2 (Nat.le_add_left _ _))
/-- SparseCore `c`'s sequencer thread. -/
abbrev SC : Thread nD τ := S d ((coordsS c 0).castLE hcore0)

/-- There are two SparseCores. -/
theorem c_lt (c : Fin (grid0.bound 0)) : c.val < 2 := c.isLt

/-- The cell the rows' copies complete on. -/
abbrev rowSem : DmaSem sig := cc0_scratch2.sem

/-- The value of the index of SparseCore `c`'s row `r`. -/
def rid (r : ℕ) (hr : r < 512) : BitVec 32 := idv m d (512 * c.val + r) (by have := c_lt c; omega)

/-- A row of the half is within the gathered array. -/
theorem oRow_inb (r : ℕ) (hr : r < 512) : ∀ a, (![512 * c.val + r, 0] : Fin 2 → Nat) a + S1x64.size a ≤ S1024x64.size a := by
  have := c_lt c; intro a; fin_cases a <;> simp <;> omega
/-- A row of the table is within it. -/
theorem tRow_inb (n : ℕ) (hn : n < 100000) : ∀ a, (![n, 0] : Fin 2 → Nat) a + S1x64.size a ≤ S100000x64.size a := by
  intro a; fin_cases a <;> simp <;> omega

/-- Row `r` of SparseCore `c`'s half of the gathered array, and row `n` of the table, as the body slices them. -/
def oRow (r : ℕ) (hr : r < 512) : Memref sig .scScalar .hbm S1x64 .f32 :=
  (oW).slice (Rect.unit (s := S1024x64) ![512 * c.val + r, 0] S1x64.size (oRow_inb c r hr)) (fun _ => rfl)
/-- Row `n` of the table, as the body slices it. -/
def tRow (n : ℕ) (hn : n < 100000) : Memref sig .scScalar .hbm S1x64 .f32 :=
  (tW).slice (Rect.unit (s := S100000x64) ![n, 0] S1x64.size (tRow_inb n hn)) (fun _ => rfl)

/-- The elements of those rows. -/
def oSet (r : ℕ) (hr : r < 512) : Finset S1024x64.Idx := (oRow c r hr).view.set
/-- The elements of a row of the table. -/
def tSet (n : ℕ) (hn : n < 100000) : Finset S100000x64.Idx := (tRow n hn).view.set

variable (hp : PreOK m)

/-- The table's share row `r`'s copy reads under. -/
abbrev rowShare (r : ℕ) (hr : r < 512) : PosShare TreeShare := ShareLeaves.leaf 9 (shareC c.val) ⟨r, hr⟩

/-- What row `r`'s copy takes: the row it writes, at its launch contents, and the table row it reads; and what it
    delivers: the row it writes, gathered, and the table row. -/
def rowIn (r : Fin 512) : sProp 𝕄 :=
  iprop((tLoc d ↦[tSet (rid m d c r r.isLt).toNat (hp d _ _)]{rowShare c r r.isLt} m (tLoc d))
    ∗ (oLoc d ↦[oSet c r r.isLt]{fullShare} m (oLoc d)))
/-- What row `r`'s copy delivers. -/
def rowOut (r : Fin 512) : sProp 𝕄 :=
  iprop((oLoc d ↦[oSet c r r.isLt]{fullShare} gath m d)
    ∗ (tLoc d ↦[tSet (rid m d c r r.isLt).toNat (hp d _ _)]{rowShare c r r.isLt} m (tLoc d)))

/-- What a row's copy delivers may be stored. -/
instance rowOut_storable (r : Fin 512) : BI.Storable (upEmb : UEmb _ 𝕄) (rowOut m d c hp r) := by unfold rowOut; infer_instance

/-- The units one row's copy puts on the cell. -/
def rowUnits : ℕ := (oRow (⟨0, by decide⟩ : Fin (grid0.bound 0)) 0 (by decide)).view.amount (.dma rowSem)

/-- What row `r`'s copy leaves in the row it writes is the gathered array there. -/
theorem row_value (r : ℕ) (hr : r < 512) (i : Idx ((oRow c r hr).view.loc (SC d c))) (hi : i ∈ (oRow c r hr).view.set) :
    ((oRow c r hr).view.write (Elt F) (m (oLoc d)) (ReadAs.same.apply ((tRow (rid m d c r hr).toNat (hp d _ _)).view.read (Elt F) (m (tLoc d)))) Finset.univ) i = gath m d i := by
  obtain ⟨x, -, rfl⟩ := Finset.mem_map.mp hi
  refine (View.write_emb_of_mem (v := (oRow c r hr).view) (Val := Elt F) _ _ (Finset.mem_univ x)).trans ?_
  have hx0 : (x 0).val = 0 := by have := (x 0).isLt; simp at this; omega
  have key : ∀ y : S1024x64.Idx, (y 0).val = 512 * c.val + r → y 1 = (x 1 : Fin 64) →
      (m (tLoc d) : S100000x64.Idx → Elt F .f32) (tIdx (rid m d c r hr).toNat (hp d _ _) (x 1)) = (gath m d : S1024x64.Idx → Elt F .f32) y := by
    intro y hy0 hy1
    unfold gath
    have hq : (rid m d c r hr).toNat < 100000 := hp d _ _
    have hidv : ∀ (n n' : ℕ) (hn) (hn'), n = n' → idv m d n hn = idv m d n' hn' := by rintro n n' _ _ rfl; rfl
    have e1 : idv m d (y 0).val (y 0).isLt = rid m d c r hr := hidv _ _ _ _ hy0
    have hval : ∀ (n n' : ℕ) (hn) (hn') (k k' : Fin 64), n = n' → k = k' → (m (tLoc d) : S100000x64.Idx → Elt F .f32) (tIdx n hn k) = (m (tLoc d) : S100000x64.Idx → Elt F .f32) (tIdx n' hn' k') := by
      rintro n n' _ _ k k' rfl rfl; rfl
    refine hval _ _ _ _ _ _ ?_ hy1.symm
    rw [e1]; omega
  have hsrc : (tRow (rid m d c r hr).toNat (hp d _ _)).view.emb x = tIdx (rid m d c r hr).toNat (hp d _ _) (x 1) := by
    funext a
    refine Fin.ext ?_
    match a with
    | ⟨0, _⟩ =>
      show (![(rid m d c r hr).toNat, 0] : Fin 2 → ℕ) 0 + 1 * (x 0).val = (rid m d c r hr).toNat
      rw [hx0]; simp
    | ⟨1, _⟩ =>
      show (![(rid m d c r hr).toNat, 0] : Fin 2 → ℕ) 1 + 1 * (x 1).val = (x 1).val
      simp
  show (m (tLoc d) : S100000x64.Idx → Elt F .f32) ((tRow (rid m d c r hr).toNat (hp d _ _)).view.emb x) = _
  rw [hsrc]
  refine key _ ?_ (Fin.ext ?_)
  · show (![512 * c.val + r, 0] : Fin 2 → ℕ) 0 + 1 * (x 0).val = _
    rw [hx0]; simp
  · show (![512 * c.val + r, 0] : Fin 2 → ℕ) 1 + 1 * (x 1).val = _
    simp

/-- The delivery of row `r`'s copy. -/
theorem hD' (r : ℕ) (hr : r < 512) :
    iprop(((oRow c r hr).view.loc (SC d c) ↦[(oRow c r hr).view.set]{fullShare}
          ((oRow c r hr).view.write (Elt F) (m (oLoc d)) (ReadAs.same.apply ((tRow (rid m d c r hr).toNat (hp d _ _)).view.read (Elt F) (m (tLoc d)))) Finset.univ))
        ∗ ((tRow (rid m d c r hr).toNat (hp d _ _)).view.loc (SC d c) ↦[(tRow (rid m d c r hr).toNat (hp d _ _)).view.set]{rowShare c r hr} m (tLoc d)))
      ⊢ (rowOut m d c hp ⟨r, hr⟩ : sProp 𝕄) := by
  rw [pointsTo_congr (row_value m d c hp r hr)]
  exact Entails.of_eq rfl

/-- Before row `r` is issued: the scalar scratch at contents `fs`, the batch with rows `0 … r - 1` issued and none waited
    for, and what the rows from `r` on take. -/
def St (fs : Buf (Elt F) ((sW).view.loc (SC d c))) (r : ℕ) : sProp 𝕄 :=
  iprop(((sW).view.loc (SC d c) ↦{fullShare} fs) ∗ Batch countersEmb (SC d c) (.dma rowSem) (none : HIx 1) rowUnits (rowOut m d c hp) r 0
    ∗ bigSep (pending r) (rowIn m d c hp))

/-- The issue of row `r`'s copy. -/
theorem issue (fs) (r : ℕ) (hr : r < 512) {offS offD : Fin 2 → ℕ} {inbS inbD} (hS : offS = ![(rid m d c r hr).toNat, 0]) (hD : offD = ![512 * c.val + r, 0])
    {h1 h2 h3} {Q : PUnit → sProp 𝕄} :
    iprop(St m d c hp fs r ∗ (St m d c hp fs (r + 1) -∗ Q ⟨⟩))
      ⊢ wp frame (wpE (defs₀ (F := F)) 𝒱₀ (SC d c) none) Set.univ
          (Prog.lift (.enqueueDma ((tW).slice (Rect.unit (s := S100000x64) offS S1x64.size inbS) (fun _ => rfl))
            (.here ((oW).slice (Rect.unit (s := S1024x64) offD S1x64.size inbD) (fun _ => rfl))) (.dma rowSem) h1 h2 h3)) Q := by
  subst hS hD
  unfold St
  rw [Transfers.bigSep_pending_step (rowIn m d c hp) r hr]
  iintro ⟨⟨Hs, HB, Hr, HR⟩, Hk⟩
  ihave Hr' := (Entails.of_eq (show rowIn m d c hp ⟨r, hr⟩ = iprop(((tRow (rid m d c r hr).toNat (hp d _ _)).view.loc (SC d c) ↦[(tRow (rid m d c r hr).toNat (hp d _ _)).view.set]{rowShare c r hr} m (tLoc d))
    ∗ ((oRow c r hr).view.loc (SC d c) ↦[(oRow c r hr).view.set]{fullShare} m (oLoc d))) from rfl)) $$ Hr
  icases Hr' with ⟨Ht, Ho⟩
  iapply (Transfers.wp_dmaBatch countersEmb 𝒱₀ (SC d c) none (src := tRow (rid m d c r hr).toNat (hp d _ _)) (dst := oRow c r hr) (none : HIx 1) rowUnits rfl (Finset.Subset.refl _) hr (Nat.zero_le _)
    (D := rowOut m d c hp) (hD' m d c hp r hr)) $$ [Ht Ho HB]
  · isplitl [Ht]; · iexact Ht
    isplitl [Ho]; · iexact Ho
    iexact HB
  iintro HB
  rw [wp_ret]; imodintro
  iapply Hk
  isplitl [Hs]; · iexact Hs
  isplitl [HB]; · iexact HB
  iexact HR

/-- Word `r` of the scalar scratch. -/
def sIdx (r : ℕ) (hr : r < 512) : S512.Idx := fun a => match a with | ⟨0, _⟩ => ⟨r, hr⟩

/-- The load of row `r`'s index, the scratch holding SparseCore `c`'s indices. -/
theorem load (fs : Buf (Elt F) ((sW).view.loc (SC d c))) (hfs : ∀ r hr, (fs : S512.Idx → BitVec 32) (sIdx r hr) = rid m d c r hr)
    (r' r : ℕ) (hr : r < 512) {off : Fin 1 → ℕ} {inb h1 h2} (ho : off = ![r]) {Q : Elt F .i32 → sProp 𝕄} :
    iprop(St m d c hp fs r' ∗ (St m d c hp fs r' -∗ Q (rid m d c r hr)))
      ⊢ wp frame (wpE (defs₀ (F := F)) 𝒱₀ (SC d c) none) Set.univ
          (smemLoad (sW) (Rect.unit (s := S512) off S1.size inb) h1 h2) Q := by
  subst ho
  unfold St smemLoad
  iintro ⟨⟨Hs, HB, HR⟩, Hk⟩
  iapply (wp_smemLoadElt 𝒱₀ (SC d c) none Set.univ (S := Finset.univ) (Finset.subset_univ _)) $$ [Hs]
  · iexact Hs
  iintro Hs
  rw [wp_ret]; imodintro
  have hv : (((sW).access (Rect.unit (s := S512) ![r] S1.size inb)).read (Elt F) fs (Shape.Idx.first (h1.symm ▸ Nat.one_pos))) = rid m d c r hr := by
    rw [← hfs r hr]
    show (fs : S512.Idx → BitVec 32) _ = _
    congr 1
    funext a
    refine Fin.ext ?_
    match a with
    | ⟨0, _⟩ => show (![r] : Fin 1 → ℕ) 0 + 1 * 0 = r; simp
  irw [hv]
  iapply Hk
  isplitl [Hs]; · iexact Hs
  isplitl [HB]; · iexact HB
  iexact HR

/-- A check that holds. -/
theorem check {A : Prop} {dA : Decidable A} (hA : A) {Q : PLift A → sProp 𝕄} :
    (Q ⟨hA⟩ : sProp 𝕄) ⊢ wp frame (wpE (defs₀ (F := F)) 𝒱₀ (SC d c) none) Set.univ (Prog.lift (TpuEff.assume A dA)) Q := by
  iintro H
  iapply (wp_assume 𝒱₀ (SC d c) none Set.univ hA)
  rw [wp_ret]
  imodintro
  iexact H

/-- An index below the table's height names a row inside the table. -/
theorem chk {v : BitVec 32} (hv : v.toNat < 100000) : ∀ a, (![v.toNat, 0] : Fin 2 → Nat) a + S1x64.size a ≤ S100000x64.size a := tRow_inb _ hv

/-- While the rows are waited for: every row issued, `u` rows' units taken. -/
def Wt (O : CellTallies nD τ sig (HIx 1)) (u : ℕ) : sProp 𝕄 :=
  iprop(Batch countersEmb (SC d c) (.dma rowSem) (none : HIx 1) rowUnits (rowOut m d c hp) 512 (u * rowUnits)
    ∗ ∃ W, owes (SC d c) O W)

/-- The wait for one row's units. -/
theorem wait (O) (u : ℕ) (hu : u < 512) {offS offD : Fin 2 → ℕ} {inbS inbD} {h1 h2} {Q : PUnit → sProp 𝕄} :
    iprop(Transfers.MayWaits (SC d c) (none : HIx 1) O ∗ Wt m d c hp O u ∗ (Wt m d c hp O (u + 1) -∗ Q ⟨⟩))
      ⊢ wp frame (wpE (defs₀ (F := F)) 𝒱₀ (SC d c) none) Set.univ
          (Prog.lift (.waitDma2 rowSem ((tW).slice (Rect.unit (s := S100000x64) offS S1x64.size inbS) (fun _ => rfl))
            ((oW).slice (Rect.unit (s := S1024x64) offD S1x64.size inbD) (fun _ => rfl)) h1 h2)) Q := by
  unfold Wt
  iintro ⟨#Hmw, ⟨HB, %W, HO⟩, Hk⟩
  iapply (Transfers.wp_waitBatchMulO countersEmb 𝒱₀ (SC d c) none (none : HIx 1) (N := rowUnits)
    (srcw := (tW).slice (Rect.unit (s := S100000x64) offS S1x64.size inbS) (fun _ => rfl))
    (dstw := (oW).slice (Rect.unit (s := S1024x64) offD S1x64.size inbD) (fun _ => rfl)) (hsrc := h1) (hdst := h2) 1 (show _ = 1 * rowUnits from (Nat.one_mul _).symm)
    (u := u * rowUnits) (j := 512) (by have := Nat.mul_le_mul_right rowUnits (show u + 1 ≤ 512 from hu); rw [Nat.add_mul] at this; omega)) $$ [HB HO]
  · isplitl [HB]; · iexact HB
    isplitl [HO]; · iexact HO
    iapply (Transfers.MayWaits.elim (SemLoc.dma rowSem)) $$ Hmw
  iintro ⟨HB, HO⟩
  rw [wp_ret]; imodintro
  iapply Hk
  irw [show (u + 1) * rowUnits = u * rowUnits + 1 * rowUnits by ring]
  isplitl [HB]; · iexact HB
  iexists _; iexact HO

end Cert.Proof

end
-- ==== Proof.Deal.lean ====
/-
  The table's share and a SparseCore's half of the gathered rows, dealt to the 512 rows' copies and put together again.
-/
module

public import proofs.«01_k».proof.Proof.Rows

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.Transfers (Batch pending)

variable {F : FTy → Type}

local notation "𝕄" => MT nD τ sig (HIx 1) (Elt F) ℕ UU ℕ
variable (m : (ℓ : Loc nD τ sig) → Buf (Elt F) ℓ)

variable [FloatOps F] (d : Dev nD) (c : Fin (grid0.bound 0))

variable (hp : PreOK m)

/-- Row `r`'s elements are those of row `512·c + r` of the gathered array. -/
theorem mem_oSet (r : ℕ) (hr : r < 512) (i : S1024x64.Idx) : i ∈ oSet c r hr ↔ (i 0).val = 512 * c.val + r := by
  have h : oSet c r hr = (Rect.unit (s := S1024x64) ![512 * c.val + r, 0] S1x64.size (oRow_inb c r hr)).set := View.set_slice_whole _ _
  rw [h, Rect.mem_set_unit]
  constructor
  · intro H
    have := H 0
    simp at this; omega
  · intro H a
    match a with
    | ⟨0, _⟩ => simp; omega
    | ⟨1, _⟩ => have := (i 1).isLt; simp at this ⊢; omega

/-- The rows' elements are apart and make up the SparseCore's half. -/
theorem half_eq : half c.val = Finset.univ.biUnion fun r : Fin 512 => oSet c r r.isLt := by
  ext i
  simp only [half, Finset.mem_filter, Finset.mem_univ, true_and, Finset.mem_biUnion, mem_oSet]
  constructor
  · rintro ⟨h1, h2⟩
    exact ⟨⟨(i 0).val - 512 * c.val, by omega⟩, by simp; omega⟩
  · rintro ⟨r, hr⟩
    have := r.isLt; omega

/-- Two rows share no element. -/
theorem oSet_disjoint (r r' : Fin 512) (h : r ≠ r') : Disjoint (oSet c r r.isLt) (oSet c r' r'.isLt) := by
  refine Finset.disjoint_left.mpr fun i h1 h2 => h (Fin.ext ?_)
  rw [mem_oSet] at h1 h2; omega

/-- The half, row by row. -/
theorem half_rows (f : Buf (Elt F) (oLoc d)) :
    (oLoc d ↦[half c.val]{fullShare} f : sProp 𝕄) = bigSep Finset.univ fun r : Fin 512 => oLoc d ↦[oSet c r r.isLt]{fullShare} f := by
  rw [half_eq]
  exact pointsTo_biUnion (ℓ := oLoc d) Finset.univ (fun r : Fin 512 => oSet c r r.isLt) (fun r _ r' _ h => oSet_disjoint c r r' h)

/-- What is left of row `r`'s share of the table beside the row its copy reads. -/
def rowRest (r : Fin 512) : sProp 𝕄 :=
  tLoc d ↦[Finset.univ \ tSet (rid m d c r r.isLt).toNat (hp d _ _)]{rowShare c r r.isLt} m (tLoc d)

/-- The row of the table that row `r`'s copy reads, at the row's share. -/
def rowTab (r : Fin 512) : sProp 𝕄 :=
  tLoc d ↦[tSet (rid m d c r r.isLt).toNat (hp d _ _)]{rowShare c r r.isLt} m (tLoc d)

omit m in
/-- Row `r` of the half at contents `f`. -/
def rowHalf (f : Buf (Elt F) (oLoc d)) (r : Fin 512) : sProp 𝕄 := oLoc d ↦[oSet c r r.isLt]{fullShare} f

/-- The table's share, row by row: the row the copy reads, and the rest. -/
theorem table_rows :
    (tLoc d ↦{shareC c.val} m (tLoc d) : sProp 𝕄)
      = iprop(bigSep Finset.univ (rowTab m d c hp) ∗ bigSep Finset.univ (rowRest m d c hp)) := by
  refine (ShareLeaves.pointsTo_leaves Finset.univ (m (tLoc d)) 9 (shareC c.val)).trans ?_
  refine Eq.trans ?_ (BI.bigSep_sep (Finset.univ : Finset (Fin 512)) (rowTab m d c hp) (rowRest m d c hp))
  refine bigSep_congr fun r _ => ?_
  exact BI.Entails.antisymm (pointsTo_split_subset (Finset.subset_univ _)).1 (pointsTo_split_subset (Finset.subset_univ _)).2

/-- What the rows' copies take is the table's rows and the half, row by row. -/
theorem rowsIn_eq : bigSep Finset.univ (rowIn m d c hp)
    = (iprop(bigSep Finset.univ (rowTab m d c hp) ∗ bigSep Finset.univ (rowHalf d c (m (oLoc d)))) : sProp 𝕄) :=
  BI.bigSep_sep (Finset.univ : Finset (Fin 512)) (rowTab m d c hp) (rowHalf d c (m (oLoc d)))

/-- What the rows' copies deliver is the gathered half and the table's rows, row by row. -/
theorem rowsOut_eq : bigSep Finset.univ (rowOut m d c hp)
    = (iprop(bigSep Finset.univ (rowHalf d c (gath m d)) ∗ bigSep Finset.univ (rowTab m d c hp)) : sProp 𝕄) :=
  BI.bigSep_sep (Finset.univ : Finset (Fin 512)) (rowHalf d c (gath m d)) (rowTab m d c hp)

/-- The half, row by row, each row by its name. -/
theorem half_rows' (f : Buf (Elt F) (oLoc d)) :
    (oLoc d ↦[half c.val]{fullShare} f : sProp 𝕄) = bigSep Finset.univ (rowHalf d c f) := half_rows d c f

/-- The table's share and the half dealt to the rows' copies, -/
theorem rows_deal :
    iprop((tLoc d ↦{shareC c.val} m (tLoc d)) ∗ (oLoc d ↦[half c.val]{fullShare} m (oLoc d)))
      ⊢ (iprop(bigSep (pending 0) (rowIn m d c hp) ∗ bigSep Finset.univ (rowRest m d c hp)) : sProp 𝕄) := by
  rw [table_rows m d c hp, half_rows' d c, ← Transfers.bigSep_pending_zero, rowsIn_eq]
  iintro ⟨⟨Ht, HR⟩, Ho⟩
  isplitl [Ht Ho]
  · isplitl [Ht]; · iexact Ht
    iexact Ho
  iexact HR

/-- and, every copy delivered, put together again. -/
theorem rows_gather :
    iprop(bigSep Finset.univ (rowOut m d c hp) ∗ bigSep Finset.univ (rowRest m d c hp))
      ⊢ (iprop((tLoc d ↦{shareC c.val} m (tLoc d)) ∗ (oLoc d ↦[half c.val]{fullShare} gath m d)) : sProp 𝕄) := by
  rw [table_rows m d c hp, half_rows' d c, rowsOut_eq]
  iintro ⟨⟨Ho, Ht⟩, HR⟩
  isplitl [Ht HR]
  · isplitl [Ht]; · iexact Ht
    iexact HR
  iexact Ho

end Cert.Proof

end
-- ==== Proof.Loops.lean ====
/-
  The kernel's body on a SparseCore's sequencer: its two counted loops — the first issues the 512 rows' copies sixteen a
  trip, the second waits for them sixteen a trip — and the body around them.
-/
module

public import proofs.«01_k».proof.Proof.Rows

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.Transfers (Batch pending)

variable {F : FTy → Type}

local notation "𝕄" => MT nD τ sig (HIx 1) (Elt F) ℕ UU ℕ
variable (m : (ℓ : Loc nD τ sig) → Buf (Elt F) ℓ)

variable [FloatOps F] (d : Dev nD) (c : Fin (grid0.bound 0))

variable (hp : PreOK m)

/-- The issuing loop makes 32 trips. -/
theorem t1_trips : k0_t1_loop.trips = 32 := by decide
/-- So does the waiting loop. -/
theorem t2_trips : k0_t2_loop.trips = 32 := by decide
/-- A trip's row is one of the 512. -/
theorem row_lt (t : Fin k0_t1_loop.trips) (j : ℕ) (hj : j < 16) : 16 * t.val + j < 512 := by
  have := t.isLt; have := t1_trips; omega
/-- So is the row a waiting trip waits for. -/
theorem unit_lt (t : Fin k0_t2_loop.trips) (j : ℕ) (hj : j < 16) : 16 * t.val + j < 512 := by
  have := t.isLt; have := t2_trips; omega

/-- A row's offsets, the sum taken in either order. -/
theorem off_assoc (a b j : ℕ) : (![a + b + j, 0] : Fin 2 → ℕ) = ![a + (b + j), 0] := by rw [Nat.add_assoc]

section Issue

variable (fs : Buf (Elt F) ((sW).view.loc (SC d c))) (hfs : ∀ r hr, (fs : S512.Idx → BitVec 32) (sIdx r hr) = rid m d c r hr)

/-- The index of row `j` of trip `t`. -/
abbrev tid (t : Fin k0_t1_loop.trips) (j : ℕ) (hj : j < 16) : BitVec 32 := rid m d c (16 * t.val + j) (row_lt t j hj)
include hp in
/-- That index names a row of the table. -/
theorem tid_chk (t : Fin k0_t1_loop.trips) (j : ℕ) (hj : j < 16) :
    ∀ a, (![(tid m d c t j hj).toNat, 0] : Fin 2 → Nat) a + S1x64.size a ≤ S100000x64.size a := chk (hp d _ _)

include hfs

/-- Rows 0 to 3 of a trip. -/
theorem part1 (t : Fin k0_t1_loop.trips) (v0 a b : BitVec 32) {Q : BitVec 32 → sProp 𝕄} :
    iprop(St m d c hp fs (16 * t.val) ∗ (∀ v, St m d c hp fs (16 * t.val + 4) -∗ Q v))
      ⊢ wp frame (wpE (defs₀ (F := F)) 𝒱₀ (SC d c) none) Set.univ (k0_part1 (coordsS c) tW (Memref.isWhole_whole _) iW (Memref.isWhole_whole _) oW (Memref.isWhole_whole _) sW (Memref.isWhole_whole _) cc0_scratch1 cc0_scratch2 v0 a b t) Q := by
  rw [k0_part1_eq_skeleton]; unfold k0_part1_skel
  simp only [wp_bind, wp_pure]
  iintro ⟨H, Hk⟩
  iapply (load m d c hp fs hfs _ (16 * t.val + 0) (row_lt t 0 (by decide)) (k0_off2_eq t))
  isplitl [H]; · iexact H
  iintro H
  iapply (check d c (tid_chk m d c hp t 0 (by decide)))
  iapply (issue m d c hp fs (16 * t.val + 0) (row_lt t 0 (by decide)) rfl (k0_off3_eq (coordsS c) t))
  isplitl [H]; · iexact H
  iintro H
  iapply (load m d c hp fs hfs _ (16 * t.val + 1) (row_lt t 1 (by decide)) (k0_off5_eq t))
  isplitl [H]; · iexact H
  iintro H
  iapply (check d c (tid_chk m d c hp t 1 (by decide)))
  iapply (issue m d c hp fs (16 * t.val + 1) (row_lt t 1 (by decide)) rfl ((k0_off6_eq (coordsS c) t).trans (off_assoc _ _ _)))
  isplitl [H]; · iexact H
  iintro H
  iapply (load m d c hp fs hfs _ (16 * t.val + 2) (row_lt t 2 (by decide)) (k0_off8_eq t))
  isplitl [H]; · iexact H
  iintro H
  iapply (check d c (tid_chk m d c hp t 2 (by decide)))
  iapply (issue m d c hp fs (16 * t.val + 2) (row_lt t 2 (by decide)) rfl ((k0_off9_eq (coordsS c) t).trans (off_assoc _ _ _)))
  isplitl [H]; · iexact H
  iintro H
  iapply (load m d c hp fs hfs _ (16 * t.val + 3) (row_lt t 3 (by decide)) (k0_off11_eq t))
  isplitl [H]; · iexact H
  iintro H
  iapply (check d c (tid_chk m d c hp t 3 (by decide)))
  iapply (issue m d c hp fs (16 * t.val + 3) (row_lt t 3 (by decide)) rfl ((k0_off12_eq (coordsS c) t).trans (off_assoc _ _ _)))
  isplitl [H]; · iexact H
  iintro H
  imodintro
  iapply Hk; iexact H

/-- Rows 4 to 7 of a trip, and row 8's index. -/
theorem part2 (t : Fin k0_t1_loop.trips) (v0 v6 : BitVec 32) {Q : (Σ' (v65 : Elt F .i32), k0_chk9 v65) → sProp 𝕄} :
    iprop(St m d c hp fs (16 * t.val + 4) ∗ (St m d c hp fs (16 * t.val + 8) -∗ Q ⟨tid m d c t 8 (by decide), tid_chk m d c hp t 8 (by decide)⟩))
      ⊢ wp frame (wpE (defs₀ (F := F)) 𝒱₀ (SC d c) none) Set.univ (k0_part2 (coordsS c) tW (Memref.isWhole_whole _) iW (Memref.isWhole_whole _) oW (Memref.isWhole_whole _) sW (Memref.isWhole_whole _) cc0_scratch1 cc0_scratch2 v0 t v6) Q := by
  rw [k0_part2_eq_skeleton]; unfold k0_part2_skel
  simp only [wp_bind, wp_pure]
  iintro ⟨H, Hk⟩
  iapply (load m d c hp fs hfs _ (16 * t.val + 4) (row_lt t 4 (by decide)) (k0_off14_eq t))
  isplitl [H]; · iexact H
  iintro H
  iapply (check d c (tid_chk m d c hp t 4 (by decide)))
  iapply (issue m d c hp fs (16 * t.val + 4) (row_lt t 4 (by decide)) rfl ((k0_off15_eq (coordsS c) t).trans (off_assoc _ _ _)))
  isplitl [H]; · iexact H
  iintro H
  iapply (load m d c hp fs hfs _ (16 * t.val + 5) (row_lt t 5 (by decide)) (k0_off17_eq t))
  isplitl [H]; · iexact H
  iintro H
  iapply (check d c (tid_chk m d c hp t 5 (by decide)))
  iapply (issue m d c hp fs (16 * t.val + 5) (row_lt t 5 (by decide)) rfl ((k0_off18_eq (coordsS c) t).trans (off_assoc _ _ _)))
  isplitl [H]; · iexact H
  iintro H
  iapply (load m d c hp fs hfs _ (16 * t.val + 6) (row_lt t 6 (by decide)) (k0_off20_eq t))
  isplitl [H]; · iexact H
  iintro H
  iapply (check d c (tid_chk m d c hp t 6 (by decide)))
  iapply (issue m d c hp fs (16 * t.val + 6) (row_lt t 6 (by decide)) rfl ((k0_off21_eq (coordsS c) t).trans (off_assoc _ _ _)))
  isplitl [H]; · iexact H
  iintro H
  iapply (load m d c hp fs hfs _ (16 * t.val + 7) (row_lt t 7 (by decide)) (k0_off23_eq t))
  isplitl [H]; · iexact H
  iintro H
  iapply (check d c (tid_chk m d c hp t 7 (by decide)))
  iapply (issue m d c hp fs (16 * t.val + 7) (row_lt t 7 (by decide)) rfl ((k0_off24_eq (coordsS c) t).trans (off_assoc _ _ _)))
  isplitl [H]; · iexact H
  iintro H
  iapply (load m d c hp fs hfs _ (16 * t.val + 8) (row_lt t 8 (by decide)) (k0_off26_eq t))
  isplitl [H]; · iexact H
  iintro H
  iapply (check d c (tid_chk m d c hp t 8 (by decide)))
  imodintro
  iapply Hk; iexact H

/-- Rows 8 to 12 of a trip, and row 13's index. -/
theorem part3 (t : Fin k0_t1_loop.trips) (v0 v6 : BitVec 32) (h9 : k0_chk9 (tid m d c t 8 (by decide)))
    {Q : (Σ' (v100 : Elt F .i32) (k0_hw14 : k0_chk14 v100), BitVec 32) → sProp 𝕄} :
    iprop(St m d c hp fs (16 * t.val + 8) ∗ (∀ v, St m d c hp fs (16 * t.val + 13) -∗ Q ⟨tid m d c t 13 (by decide), tid_chk m d c hp t 13 (by decide), v⟩))
      ⊢ wp frame (wpE (defs₀ (F := F)) 𝒱₀ (SC d c) none) Set.univ (k0_part3 (coordsS c) tW (Memref.isWhole_whole _) iW (Memref.isWhole_whole _) oW (Memref.isWhole_whole _) sW (Memref.isWhole_whole _) cc0_scratch1 cc0_scratch2 v0 t v6 (tid m d c t 8 (by decide)) h9) Q := by
  rw [k0_part3_eq_skeleton]; unfold k0_part3_skel
  simp only [wp_bind, wp_pure]
  iintro ⟨H, Hk⟩
  iapply (issue m d c hp fs (16 * t.val + 8) (row_lt t 8 (by decide)) rfl ((k0_off27_eq (coordsS c) t).trans (off_assoc _ _ _)))
  isplitl [H]; · iexact H
  iintro H
  iapply (load m d c hp fs hfs _ (16 * t.val + 9) (row_lt t 9 (by decide)) (k0_off29_eq t))
  isplitl [H]; · iexact H
  iintro H
  iapply (check d c (tid_chk m d c hp t 9 (by decide)))
  iapply (issue m d c hp fs (16 * t.val + 9) (row_lt t 9 (by decide)) rfl ((k0_off30_eq (coordsS c) t).trans (off_assoc _ _ _)))
  isplitl [H]; · iexact H
  iintro H
  iapply (load m d c hp fs hfs _ (16 * t.val + 10) (row_lt t 10 (by decide)) (k0_off32_eq t))
  isplitl [H]; · iexact H
  iintro H
  iapply (check d c (tid_chk m d c hp t 10 (by decide)))
  iapply (issue m d c hp fs (16 * t.val + 10) (row_lt t 10 (by decide)) rfl ((k0_off33_eq (coordsS c) t).trans (off_assoc _ _ _)))
  isplitl [H]; · iexact H
  iintro H
  iapply (load m d c hp fs hfs _ (16 * t.val + 11) (row_lt t 11 (by decide)) (k0_off35_eq t))
  isplitl [H]; · iexact H
  iintro H
  iapply (check d c (tid_chk m d c hp t 11 (by decide)))
  iapply (issue m d c hp fs (16 * t.val + 11) (row_lt t 11 (by decide)) rfl ((k0_off36_eq (coordsS c) t).trans (off_assoc _ _ _)))
  isplitl [H]; · iexact H
  iintro H
  iapply (load m d c hp fs hfs _ (16 * t.val + 12) (row_lt t 12 (by decide)) (k0_off38_eq t))
  isplitl [H]; · iexact H
  iintro H
  iapply (check d c (tid_chk m d c hp t 12 (by decide)))
  iapply (issue m d c hp fs (16 * t.val + 12) (row_lt t 12 (by decide)) rfl ((k0_off39_eq (coordsS c) t).trans (off_assoc _ _ _)))
  isplitl [H]; · iexact H
  iintro H
  iapply (load m d c hp fs hfs _ (16 * t.val + 13) (row_lt t 13 (by decide)) (k0_off41_eq t))
  isplitl [H]; · iexact H
  iintro H
  iapply (check d c (tid_chk m d c hp t 13 (by decide)))
  imodintro
  iapply Hk; iexact H

/-- A trip of the first loop: sixteen rows issued. -/
theorem trip1 (t : Fin k0_t1_loop.trips) (v0 : BitVec 32) {Q : Unit → sProp 𝕄} :
    iprop(St m d c hp fs (16 * t.val) ∗ (St m d c hp fs (16 * t.val + 16) -∗ Q ⟨⟩))
      ⊢ wp frame (wpE (defs₀ (F := F)) 𝒱₀ (SC d c) none) Set.univ (k0_t1_body (coordsS c) tW (Memref.isWhole_whole _) iW (Memref.isWhole_whole _) oW (Memref.isWhole_whole _) sW (Memref.isWhole_whole _) cc0_scratch1 cc0_scratch2 v0 t ⟨⟩) Q := by
  unfold k0_t1_body
  simp only [wp_bind, wp_pure]
  iintro ⟨H, Hk⟩
  iapply (part1 m d c hp fs hfs t v0 _ _)
  isplitl [H]; · iexact H
  iintro %v6 H
  iapply (part2 m d c hp fs hfs t v0 v6)
  isplitl [H]; · iexact H
  iintro H
  simp only [wp_bind, wp_pure]
  iapply (part3 m d c hp fs hfs t v0 v6)
  isplitl [H]; · iexact H
  iintro %v101 H
  simp only [wp_bind, wp_pure]
  iapply (issue m d c hp fs (16 * t.val + 13) (row_lt t 13 (by decide)) rfl ((k0_off42_eq (coordsS c) t).trans (off_assoc _ _ _)))
  isplitl [H]; · iexact H
  iintro H
  iapply (load m d c hp fs hfs _ (16 * t.val + 14) (row_lt t 14 (by decide)) (k0_off44_eq t))
  isplitl [H]; · iexact H
  iintro H
  iapply (check d c (tid_chk m d c hp t 14 (by decide)))
  iapply (issue m d c hp fs (16 * t.val + 14) (row_lt t 14 (by decide)) rfl ((k0_off45_eq (coordsS c) t).trans (off_assoc _ _ _)))
  isplitl [H]; · iexact H
  iintro H
  iapply (load m d c hp fs hfs _ (16 * t.val + 15) (row_lt t 15 (by decide)) (k0_off47_eq t))
  isplitl [H]; · iexact H
  iintro H
  iapply (check d c (tid_chk m d c hp t 15 (by decide)))
  iapply (issue m d c hp fs (16 * t.val + 15) (row_lt t 15 (by decide)) rfl ((k0_off48_eq (coordsS c) t).trans (off_assoc _ _ _)))
  isplitl [H]; · iexact H
  iintro H
  imodintro
  iapply Hk; iexact H

end Issue

/-- The first six of a trip's waits. -/
theorem part4 (O : CellTallies nD τ sig (HIx 1)) (t : Fin k0_t2_loop.trips) (v0 a b : BitVec 32) {Q : (Σ' (v6 : BitVec 32), BitVec 32) → sProp 𝕄} :
    iprop(Transfers.MayWaits (SC d c) (none : HIx 1) O ∗ Wt m d c hp O (16 * t.val + 0) ∗ (∀ v, Wt m d c hp O (16 * t.val + 6) -∗ Q v))
      ⊢ wp frame (wpE (defs₀ (F := F)) 𝒱₀ (SC d c) none) Set.univ (k0_part4 (coordsS c) tW (Memref.isWhole_whole _) iW (Memref.isWhole_whole _) oW (Memref.isWhole_whole _) sW (Memref.isWhole_whole _) cc0_scratch1 cc0_scratch2 v0 a b t) Q := by
  rw [k0_part4_eq_skeleton]; unfold k0_part4_skel
  simp only [wp_bind, wp_pure]
  iintro ⟨#Hmw, H, Hk⟩
  iapply (wait m d c hp O (16 * t.val + 0) (unit_lt t 0 (by decide)))
  isplitr; · iexact Hmw
  isplitl [H]; · iexact H
  iintro H
  iapply (wait m d c hp O (16 * t.val + 1) (unit_lt t 1 (by decide)))
  isplitr; · iexact Hmw
  isplitl [H]; · iexact H
  iintro H
  iapply (wait m d c hp O (16 * t.val + 2) (unit_lt t 2 (by decide)))
  isplitr; · iexact Hmw
  isplitl [H]; · iexact H
  iintro H
  iapply (wait m d c hp O (16 * t.val + 3) (unit_lt t 3 (by decide)))
  isplitr; · iexact Hmw
  isplitl [H]; · iexact H
  iintro H
  iapply (wait m d c hp O (16 * t.val + 4) (unit_lt t 4 (by decide)))
  isplitr; · iexact Hmw
  isplitl [H]; · iexact H
  iintro H
  iapply (wait m d c hp O (16 * t.val + 5) (unit_lt t 5 (by decide)))
  isplitr; · iexact Hmw
  isplitl [H]; · iexact H
  iintro H
  imodintro
  iapply Hk; iexact H

/-- The next six. -/
theorem part5 (O : CellTallies nD τ sig (HIx 1)) (t : Fin k0_t2_loop.trips) (v0 v6 v31 : BitVec 32) {Q : PUnit → sProp 𝕄} :
    iprop(Transfers.MayWaits (SC d c) (none : HIx 1) O ∗ Wt m d c hp O (16 * t.val + 6) ∗ (Wt m d c hp O (16 * t.val + 12) -∗ Q ⟨⟩))
      ⊢ wp frame (wpE (defs₀ (F := F)) 𝒱₀ (SC d c) none) Set.univ (k0_part5 (coordsS c) tW (Memref.isWhole_whole _) iW (Memref.isWhole_whole _) oW (Memref.isWhole_whole _) sW (Memref.isWhole_whole _) cc0_scratch1 cc0_scratch2 v0 t v6 v31) Q := by
  rw [k0_part5_eq_skeleton]; unfold k0_part5_skel
  simp only [wp_bind, wp_pure]
  iintro ⟨#Hmw, H, Hk⟩
  iapply (wait m d c hp O (16 * t.val + 6) (unit_lt t 6 (by decide)))
  isplitr; · iexact Hmw
  isplitl [H]; · iexact H
  iintro H
  iapply (wait m d c hp O (16 * t.val + 7) (unit_lt t 7 (by decide)))
  isplitr; · iexact Hmw
  isplitl [H]; · iexact H
  iintro H
  iapply (wait m d c hp O (16 * t.val + 8) (unit_lt t 8 (by decide)))
  isplitr; · iexact Hmw
  isplitl [H]; · iexact H
  iintro H
  iapply (wait m d c hp O (16 * t.val + 9) (unit_lt t 9 (by decide)))
  isplitr; · iexact Hmw
  isplitl [H]; · iexact H
  iintro H
  iapply (wait m d c hp O (16 * t.val + 10) (unit_lt t 10 (by decide)))
  isplitr; · iexact Hmw
  isplitl [H]; · iexact H
  iintro H
  iapply (wait m d c hp O (16 * t.val + 11) (unit_lt t 11 (by decide)))
  isplitr; · iexact Hmw
  isplitl [H]; · iexact H
  iintro H
  imodintro
  iapply Hk; iexact H

/-- A trip of the second loop: sixteen rows' units taken. -/
theorem trip2 (O : CellTallies nD τ sig (HIx 1)) (t : Fin k0_t2_loop.trips) (v0 : BitVec 32) {Q : Unit → sProp 𝕄} :
    iprop(Transfers.MayWaits (SC d c) (none : HIx 1) O ∗ Wt m d c hp O (16 * t.val + 0) ∗ (Wt m d c hp O (16 * t.val + 16) -∗ Q ⟨⟩))
      ⊢ wp frame (wpE (defs₀ (F := F)) 𝒱₀ (SC d c) none) Set.univ (k0_t2_body (coordsS c) tW (Memref.isWhole_whole _) iW (Memref.isWhole_whole _) oW (Memref.isWhole_whole _) sW (Memref.isWhole_whole _) cc0_scratch1 cc0_scratch2 v0 t ⟨⟩) Q := by
  unfold k0_t2_body
  simp only [wp_bind, wp_pure]
  iintro ⟨#Hmw, H, Hk⟩
  iapply (part4 m d c hp O t v0 _ _)
  isplitr; · iexact Hmw
  isplitl [H]; · iexact H
  iintro %v H
  obtain ⟨v6, v31⟩ := v
  simp only [wp_bind, wp_pure]
  iapply (part5 m d c hp O t v0 v6 v31)
  isplitr; · iexact Hmw
  isplitl [H]; · iexact H
  iintro H
  iapply (wait m d c hp O (16 * t.val + 12) (unit_lt t 12 (by decide)))
  isplitr; · iexact Hmw
  isplitl [H]; · iexact H
  iintro H
  iapply (wait m d c hp O (16 * t.val + 13) (unit_lt t 13 (by decide)))
  isplitr; · iexact Hmw
  isplitl [H]; · iexact H
  iintro H
  iapply (wait m d c hp O (16 * t.val + 14) (unit_lt t 14 (by decide)))
  isplitr; · iexact Hmw
  isplitl [H]; · iexact H
  iintro H
  iapply (wait m d c hp O (16 * t.val + 15) (unit_lt t 15 (by decide)))
  isplitr; · iexact Hmw
  isplitl [H]; · iexact H
  iintro H
  imodintro
  iapply Hk; iexact H

end Cert.Proof

end
-- ==== Proof.Body.lean ====
/-
  The gather kernel on a SparseCore's sequencer: its indices staged, its rows issued and waited for, and the obligation
  that the launch theorem asks for.
-/
module

public import proofs.«01_k».proof.Proof.Deal
public import proofs.«01_k».proof.Proof.Loops

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.Transfers (Batch pending)

variable {F : FTy → Type}

local notation "𝕄" => MT nD τ sig (HIx 1) (Elt F) ℕ UU ℕ
variable (m : (ℓ : Loc nD τ sig) → Buf (Elt F) ℓ)

variable [FloatOps F] (d : Dev nD) (c : Fin (grid0.bound 0))

variable (hp : PreOK m)

/-- The cell that the indices' copy completes on. -/
abbrev idSem : DmaSem sig := cc0_scratch1.sem

/-- The scalar scratch of SparseCore `c`'s sequencer. -/
abbrev sLoc (d : Dev nD) (c : Fin τ.nSC) : Loc nD τ sig := (S d c : Thread nD τ).loc cc0_scratch0

omit [FloatOps F] in
/-- A sequencer's DMA cell is among its own cells. -/
theorem idSem_mem (c : Fin τ.nSC) (s : DmaSem sig) : (S d c, (SemLoc.dma s : SemLoc sig)) ∈ ownCells (S d c) :=
  mem_ownCells.mpr ⟨rfl, (show ∀ s : DmaSem sig, (SemLoc.dma s : SemLoc sig).isScoped .scScalar = true by decide) _⟩

/-- The sequencer's own cells at zero: the two the body names, and the rest. -/
theorem ownSems0_S (c : Fin τ.nSC) :
    (ownSems0 (S d c) : sProp 𝕄)
      = iprop(semVal (S d c, SemLoc.dma idSem) 0 ∗ semVal (S d c, SemLoc.dma rowSem) 0
          ∗ bigSep (((ownCells (S d c)).erase (S d c, SemLoc.dma idSem)).erase (S d c, SemLoc.dma rowSem)) fun g => semVal g 0) := by
  unfold SparseCore.Cfg.ownSems0
  rw [SparseCore.bigSep_erase' (idSem_mem d c idSem),
    SparseCore.bigSep_erase' (Finset.mem_erase.mpr ⟨fun h => absurd (congrArg (fun g : GSem nD τ sig => g.2) h) (show ¬ (SemLoc.dma rowSem : SemLoc sig) = .dma idSem by decide), idSem_mem d c rowSem⟩)]

/-- The scalar scratch is among the sequencer's own buffers: it is it, at some contents, and the rest. -/
theorem ownBufs_S (c : Fin τ.nSC) :
    (ownBufs (S d c) : sProp 𝕄)
      = iprop((∃ f, sLoc d c ↦{fullShare} f)
          ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

/-- The arrays as the sequencer's memrefs address them are the TensorCore's arrays. -/
theorem pts_i (c : Fin τ.nSC) (q : PosShare TreeShare) (f : Buf (Elt F) (iLoc d)) :
    ((iW).view.loc (S d c) ↦{q} f : sProp 𝕄) = iLoc d ↦{q} f := by
  simp only [Memref.view_whole, View.set_whole]
/-- The scalar scratch as the body addresses it is the sequencer's. -/
theorem pts_s (c : Fin τ.nSC) (f : Buf (Elt F) (sLoc d c)) :
    ((sW).view.loc (S d c) ↦{fullShare} f : sProp 𝕄) = sLoc d c ↦{fullShare} f := by
  simp only [Memref.view_whole, View.set_whole]

/-- A row's copy puts something on the cell. -/
theorem rowUnits_pos : 0 < rowUnits := by
  unfold rowUnits
  exact View.amount_pos _ _ (show 0 < S1x64.numel by decide)

/-- The indices' copy starts at the SparseCore's half. -/
theorem off1 : ∀ c : Fin (grid0.bound 0), k0_off1 (coordsS c) = ![512 * c.val] := by decide +kernel

/-- The scalar scratch, staged, holds the values of the SparseCore's indices. -/
theorem staged_key (off : Fin 1 → ℕ) (inb) (fs : Buf (Elt F) ((sW).view.loc (SC d c))) (ho : off = ![512 * c.val]) (r : ℕ) (hr : r < 512) :
    ((View.write (Elt F) (sW).view fs (ReadAs.same.apply (((iW).slice (Rect.unit (s := S1024) off S512.size inb) (fun _ => rfl)).view.read (Elt F) (m (iLoc d)))) Finset.univ) : S512.Idx → BitVec 32) (sIdx r hr) = rid m d c r hr := by
  subst ho
  refine (View.write_emb_of_mem (v := (sW).view) (Val := Elt F) _ _ (Finset.mem_univ (sIdx r hr))).trans ?_
  show (m (iLoc d) : S1024.Idx → BitVec 32) _ = _
  unfold rid idv
  congr 1
  funext a
  refine Fin.ext ?_
  match a with
  | ⟨0, _⟩ => show (![512 * c.val] : Fin 1 → ℕ) 0 + 1 * r = 512 * c.val + r; simp

include hp in
/-- The body on SparseCore `c`'s sequencer: from its share of the indices and of the table, its half of the result, the
    scalar scratch and its two cells at zero, to the same with the half gathered. -/
theorem seq_run (O : CellTallies nD τ sig (HIx 1)) (W : Waits sig (HIx 1)) (fs : Buf (Elt F) ((sW).view.loc (SC d c))) :
    (iprop(Transfers.MayWaits (SC d c) (none : HIx 1) O
        ∗ ((iW).view.loc (SC d c) ↦{shareC c.val} m (iLoc d))
        ∗ (tLoc d ↦{shareC c.val} m (tLoc d)) ∗ (oLoc d ↦[half c.val]{fullShare} m (oLoc d))
        ∗ ((sW).view.loc (SC d c) ↦{fullShare} fs)
        ∗ semVal (SC d c, SemLoc.dma idSem) 0 ∗ semVal (SC d c, SemLoc.dma rowSem) 0
        ∗ owes (SC d c) O W) : sProp 𝕄)
      ⊢ wp frame (wpE (defs₀ (F := F)) 𝒱₀ (SC d c) none) Set.univ
          (cc0_k (coordsS c) tW (Memref.isWhole_whole _) iW (Memref.isWhole_whole _) oW (Memref.isWhole_whole _)
            sW (Memref.isWhole_whole _) cc0_scratch1 cc0_scratch2)
          fun _ => iprop(((iW).view.loc (SC d c) ↦{shareC c.val} m (iLoc d))
            ∗ (tLoc d ↦{shareC c.val} m (tLoc d)) ∗ (oLoc d ↦[half c.val]{fullShare} gath m d)
            ∗ (∃ f, (sW).view.loc (SC d c) ↦{fullShare} f)
            ∗ semVal (SC d c, SemLoc.dma idSem) 0 ∗ semVal (SC d c, SemLoc.dma rowSem) 0
            ∗ ∃ W', owes (SC d c) O W') := by
  rw [cc0_k_eq_skeleton]
  iintro ⟨#Hmw, Hi, Ht, Ho, Hs, Hc1, Hc2, HO⟩
  ihave HD := (rows_deal m d c hp) $$ [Ht Ho]
  · isplitl [Ht] <;> iassumption
  icases HD with ⟨HP, HR⟩
  imod (Transfers.batch_alloc' countersEmb (none : HIx 1) rowUnits (rowOut m d c hp) (c := SC d c) (sm := SemLoc.dma rowSem) (E := Set.univ)) $$ Hc2 with HB
  sl_unfold [cc0_k_skel]
  sl_exec
  have hfs : ∀ r hr, ((View.write (Elt F) (sW).view fs (seq_run.sl.dma0 m d c) Finset.univ) : S512.Idx → BitVec 32) (sIdx r hr) = rid m d c r hr :=
    staged_key m d c _ _ fs (off1 c)
  sl_for (fun k (_ : PUnit) => St m d c hp (View.write (Elt F) (sW).view fs (seq_run.sl.dma0 m d c) Finset.univ) (16 * k)) $$ [HP HB Hs]
  case region =>
    intro k _
    iintro H
    iapply (trip1 m d c hp _ hfs k _)
    isplitl [H]; · iexact H
    irw [show 16 * (k.val + 1) = 16 * k.val + 16 from rfl]
    iintro H; iexact H
  · unfold St
    isplitl [Hs]; · iexact Hs
    isplitl [HB]; · iexact HB
    iexact HP
  irw [show 16 * Scf.trips k0_t1_loop.lb k0_t1_loop.ub k0_t1_loop.st = 512 from by decide +kernel]
  unfold St
  iintro %_ ⟨Hs, HB, -⟩
  sl_for (fun k (_ : PUnit) => iprop(Transfers.MayWaits (SC d c) (none : HIx 1) O ∗ Wt m d c hp O (16 * k))) $$ [HB HO]
  case region =>
    intro k _
    iintro ⟨#Hmw, H⟩
    iapply (trip2 m d c hp O k _)
    isplitr; · iexact Hmw
    isplitl [H]; · iexact H
    irw [show 16 * (k.val + 1) = 16 * k.val + 16 from rfl]
    iintro H
    isplitr; · iexact Hmw
    iexact H
  · unfold Wt
    isplitr; · iexact Hmw
    irw [show 16 * 0 * rowUnits = 0 from Nat.zero_mul _]
    isplitl [HB]; · iexact HB
    iexists _; iexact HO
  irw [show 16 * Scf.trips k0_t2_loop.lb k0_t2_loop.ub k0_t2_loop.st = 512 from by decide +kernel]
  unfold Wt
  irw [Nat.mul_comm 512 rowUnits]
  iintro %_ ⟨-, HB, %W', HO⟩
  sl_exec
  imod (Transfers.batch_collect' countersEmb (SC d c) rowUnits_pos) $$ HB with ⟨HD, Hc2⟩
  ihave HT := (rows_gather m d c hp) $$ [HD HR]
  · isplitl [HD] <;> iassumption
  icases HT with ⟨Ht, Ho⟩
  sl_step
  isplitl [Hi]; · iexact Hi
  isplitl [Ht]; · iexact Ht
  isplitl [Ho]; · iexact Ho
  isplitl [Hs]; · iexists _; iexact Hs
  isplitl [Hc1]; · iexact Hc1
  isplitl [Hc2]; · iexact Hc2
  iexists W'; iexact HO

/-- What the sequencer takes and hands back, as the launch data state it. -/
abbrev stP : sProp 𝕄 := iprop((iLoc d ↦{shareC c.val} m (iLoc d)) ∗ (tLoc d ↦{shareC c.val} m (tLoc d)) ∗ (oLoc d ↦[half c.val]{fullShare} m (oLoc d)))
/-- What the sequencer hands back. -/
abbrev dnP : sProp 𝕄 := iprop((iLoc d ↦{shareC c.val} m (iLoc d)) ∗ (tLoc d ↦{shareC c.val} m (tLoc d)) ∗ (oLoc d ↦[half c.val]{fullShare} gath m d))

include hp in
/-- The kernel on a sequencer in the obligation's shape: the sequencer's scoped buffers opened at the scalar scratch and
    its cells at the two, around `seq_run`, and packed again; the recorded waits' clause holds of any wait at one call. -/
theorem body₀ (hF : (K (F := F)).Facts) (O : CellTallies nD τ sig (HIx 1)) (W : Waits sig (HIx 1)) (hO : ∀ g, O g none = 0) :
    iprop(levAts (K (F := F)).L (K (F := F)).lev ∗ emp ∗ stP m d c
        ∗ scopedBufs (SC d c) ∗ scopedSems0 (SC d c) ∗ owes (SC d c) O W)
      ⊢ wp frame (wpE (defs₀ (F := F)) 𝒱₀ (SC d c) none) Set.univ
          (cc0_k (coordsS c) tW (Memref.isWhole_whole _) iW (Memref.isWhole_whole _) oW (Memref.isWhole_whole _)
            sW (Memref.isWhole_whole _) cc0_scratch1 cc0_scratch2)
          fun _ => iprop(dnP m d c ∗ scopedBufs (SC d c) ∗ scopedSems0 (SC d c)
            ∗ ∃ W', ⌜∀ p ∈ W', p ∈ W ∨ p.2 = none ∨ p.2 = some (0 : Fin 1)⌝ ∗ owes (SC d c) O W') := by
  rw [(K (F := F)).scopedBufs_S hF d _, SparseCore.Cfg.scopedSems0_S (Val := Elt F) d _, ownSems0_S, ownBufs_S]
  iintro ⟨#Hlv, -, ⟨Hi, Ht, Ho⟩, ⟨⟨⟨%fs, Hs⟩, Hbufs⟩, Htiles⟩, ⟨⟨Hc1, Hc2, Hsems⟩, HtileSems⟩, HO⟩
  ihave Hmw := ((K (F := F)).mayWaits_none (thr := SC d c) hO) $$ Hlv
  ihave Hi' := (Entails.of_eq (pts_i (F := F) d _ _ _).symm) $$ Hi
  ihave Hs' := (Entails.of_eq (pts_s (F := F) d _ _).symm) $$ Hs
  iapply (wp_wand_r Idealize.ShloMosaic.frame (wpE (defs₀ (F := F)) 𝒱₀ (SC d c) none) Set.univ)
  isplitl [Hi' Ht Ho Hs' Hc1 Hc2 HO]
  · iapply (seq_run m d c hp O W _)
    isplitr; · iexact Hmw
    isplitl [Hi']; · iexact Hi'
    isplitl [Ht]; · iexact Ht
    isplitl [Ho]; · iexact Ho
    isplitl [Hs']; · iexact Hs'
    isplitl [Hc1]; · iexact Hc1
    isplitl [Hc2]; · iexact Hc2
    iexact HO
  iintro %_ ⟨Hi', Ht, Ho, ⟨%f2, Hs'⟩, Hc1, Hc2, %W', HO⟩
  isplitl [Hi' Ht Ho]
  · isplitl [Hi']; · iapply (Entails.of_eq (pts_i (F := F) d _ _ _)); iexact Hi'
    isplitl [Ht]; · iexact Ht
    iexact Ho
  isplitl [Hs' Hbufs Htiles]
  · isplitl [Hs' Hbufs]
    · isplitl [Hs']; · iexists _; iapply (Entails.of_eq (pts_s (F := F) d _ _)); iexact Hs'
      iexact Hbufs
    iexact Htiles
  isplitl [Hc1 Hc2 Hsems HtileSems]
  · isplitl [Hc1 Hc2 Hsems]
    · isplitl [Hc1]; · iexact Hc1
      isplitl [Hc2]; · iexact Hc2
      iexact Hsems
    iexact HtileSems
  iexists W'; isplitr
  · ipureintro; intro p _
    rcases p.2 with _ | q
    · exact .inr (.inl rfl)
    · exact .inr (.inr (congrArg some (Subsingleton.elim q 0)))
  · iexact HO

/-- The body a sequencer runs is the kernel's, at its coordinates. -/
theorem defs₀_scalar (c : Fin τ.nSC) :
    defs₀ (F := F) (.scScalar c) 0 ()
      = SparseCore.onCore hcore0 (fun c => cc0_k (coordsS c) tW (Memref.isWhole_whole _) iW (Memref.isWhole_whole _) oW (Memref.isWhole_whole _)
            sW (Memref.isWhole_whole _) cc0_scratch1 cc0_scratch2) ⟨⟩ c := rfl

/-- The obligation at the call: each SparseCore's sequencer runs `body₀`. -/
theorem scalarObl (hp : PreOK m) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact body₀ m d ⟨((K (F := F)).core 0 c).val, hc⟩ hp facts O W hO

end Cert.Proof

end
-- ==== Proof.Region.lean ====
/-
  The projection on the TensorCore: its body at one grid point, what the region's run is described by, and the region as
  a step of the program.
-/
module

public import proofs.«01_k».proof.Proof.Setup
public import proofs.«01_k».proof.Proof.Gen.KernelIdeal.Points
public import Idealize.ShloMosaic.Lib.VecWindow
public import Idealize.ShloMosaic.Lib.Pipeline.TableIdle
public import Idealize.ShloMosaic.Lib.Pipeline.Regions

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.Transfers (Batch pending)

variable {F : FTy → Type}

local notation "𝕄" => MT nD τ sig (HIx 1) (Elt F) ℕ UU ℕ
variable [FloatOps F]

open Idealize.ShloMosaic.TcCoe

/-- The projection's body: from a block of the transposed weights, the gathered rows and a block of the bias, the block
    of transposed results, whatever the result's buffer held. -/
theorem body_run (c : Dev nD) (i : grid1.Coords) (M0 : Memref sig .tc .vmem S64x4096 .f32) (h0 : M0.IsWhole)
    (M1 : Memref sig .tc .vmem S1024x64 .f32) (h1 : M1.IsWhole) (M2 : Memref sig .tc .vmem S1x4096 .f32) (h2 : M2.IsWhole)
    (M3 : Memref sig .tc .vmem S4096x1024 .f32) (h3 : M3.IsWhole) (X0 : Vec F S64x4096 .f32) (X1 : Vec F S1024x64 .f32) (X2 : Vec F S1x4096 .f32)
    (X3 : Vec F S4096x1024 .f32) (E : Set ℕ) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3
        ∗ ((owns (c : Thread nD τ) M0 fullShare X0 ∗ owns (c : Thread nD τ) M1 fullShare X1 ∗ owns (c : Thread nD τ) M2 fullShare X2
            ∗ owns (c : Thread nD τ) M3 fullShare (k1_pay1 X0 X1 X2 : Vec F S4096x1024 .f32)) -∗ Q ⟨⟩))
      ⊢ wp frame (wpE (defs₀ (F := F)) 𝒱₀ (c : Thread nD τ) none) E (cc1__project_body i M0 h0 M1 h1 M2 h2 M3 h3) Q := by
  rw [cc1__project_body_eq_skeleton]
  unfold owns
  iintro ⟨⟨%f0, %e0, H0⟩, ⟨%f1, %e1, H1⟩, ⟨%f2, %e2, H2⟩, ⟨%f3, %e3, H3⟩, Hk⟩
  sl_unfold [cc1__project_body_skel]
  sl_exec
  sl_step
  iapply Hk
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  iexists _
  isplitr; swap; (· iexact H3)
  ipureintro
  subst e0 e1 e2
  rw [View.read_writes_full (s := S4096x1024)]
  rw [View.readAt_full (s := S64x4096), View.readAt_full (s := S1024x64), View.readAt_full (s := S1x4096)]

/-! ## What the region's run is described by -/

variable (V : (c : Dev nD) → (b : Ref sig .tc) → Buf (Elt F) ((c : Thread nD τ).loc b))

/-- What a staging buffer that held `d` holds once the fetch at point `t` has landed: the array's block there, and `d` where
    the block reaches past the array's end. -/
def stg (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (((cfg1.win w).blk t).view.read (Elt F) (V c (Pipeline.arrRef spec1 w)))

/-- What the body may leave in the result's buffer at point `t`: its payload at the three fetched blocks. -/
def Left (c : Dev nD) (t : Fin cfg1.N) (X : (cfg1.win 3).block.Idx → Elt F (cfg1.win 3).elt) : Prop :=
  ∃ d0 d1 d2, X = (k1_pay1 (stg V c 0 t d0 : Vec F S64x4096 .f32) (stg V c 1 t d1 : Vec F S1024x64 .f32) (stg V c 2 t d2 : Vec F S1x4096 .f32) : Vec F S4096x1024 .f32)

/-- What passes through the region untouched: the core's scoped buffers that are no staging buffer. -/
abbrev Φc (c : Dev nD) : sProp 𝕄 := Pipeline.scopedRest spec1 c

/-- The region's data: the arrays at their contents on entry; the input buffers left as found, the result's as `Left` says;
    nothing owed; the whole of each array held. -/
def rdat (c : Dev nD) : Pipeline.RDat τ (Elt F) (HIx 1) ℕ UU ℕ cfg1 c where
  A w := V c (Pipeline.arrRef spec1 w)
  after w t Y X := match w with
    | ⟨0, _⟩ => X = Y
    | ⟨1, _⟩ => X = Y
    | ⟨2, _⟩ => X = Y
    | ⟨3, _⟩ => Left V c t X
  Φ _ := Φc c
  q _ := fullShare
  owed _ := 0

variable [∀ e, Nonempty (Elt F e)]

/-- An input's buffer, wherever the body is handed it, holds what a fetch there puts in it. -/
theorem found_in (c : Dev nD) (w : Fin cfg1.W) (hw : (cfg1.win w).isOut = false)
    (hclip : ∀ t t' : Fin cfg1.N, (cfg1.win w).index t = (cfg1.win w).index t' →
      (cfg1.win w).clip (cfg1.grid.coords t) = (cfg1.win w).clip (cfg1.grid.coords t'))
    (hkeep : ∀ t Y X, (rdat V c).after w t Y X → X = Y) (t : Fin cfg1.N) (Y) (hY : (rdat V c).Finds w t Y) : ∃ d, Y = stg V c w t d :=
  (rdat V c).finds_in_eq_fetched w hw hclip hkeep t Y hY

/-- The weight's blocks at one position are cut alike. -/
theorem clip0 : ∀ t t' : Fin cfg1.N, (cfg1.win 0).index t = (cfg1.win 0).index t' →
      (cfg1.win 0).clip (cfg1.grid.coords t) = (cfg1.win 0).clip (cfg1.grid.coords t') := by decide +kernel
/-- The rows' blocks at one position are cut alike. -/
theorem clip1 : ∀ t t' : Fin cfg1.N, (cfg1.win 1).index t = (cfg1.win 1).index t' →
      (cfg1.win 1).clip (cfg1.grid.coords t) = (cfg1.win 1).clip (cfg1.grid.coords t') := by decide +kernel
/-- The bias's blocks at one position are cut alike. -/
theorem clip2 : ∀ t t' : Fin cfg1.N, (cfg1.win 2).index t = (cfg1.win 2).index t' →
      (cfg1.win 2).clip (cfg1.grid.coords t) = (cfg1.win 2).clip (cfg1.grid.coords t') := by decide +kernel

/-- The body meets its obligation at every point. -/
theorem body_obligation (c : Dev nD) : (rdat V c).BodyObligation (defs₀ (F := F)) 𝒱₀ (none : HIx 1) Set.univ := fun t Y hY => by
  obtain ⟨d0, e0⟩ := found_in V c 0 rfl clip0 (fun _ _ _ h => h) t (Y 0) (hY 0)
  obtain ⟨d1, e1⟩ := found_in V c 1 rfl clip1 (fun _ _ _ h => h) t (Y 1) (hY 1)
  obtain ⟨d2, e2⟩ := found_in V c 2 rfl clip2 (fun _ _ _ h => h) t (Y 2) (hY 2)
  rw [bigSep_W1, bigSep_W1]
  rw [show (rdat V c).Φ t.castSucc = Φc c from rfl, show (rdat V c).Φ t.succ = Φc c from rfl,
    show (rdat V c).owesAt (none : HIx 1) t.succ = (rdat V c).owesAt (none : HIx 1) t.castSucc from rfl]
  iintro ⟨Hr, HO, H0, H1, H2, H3⟩
  iapply (body_run c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Y 0) (Y 1) (Y 2) (Y 3) Set.univ _)
  isplitl [H0]; · iexact H0
  isplitl [H1]; · iexact H1
  isplitl [H2]; · iexact H2
  isplitl [H3]; · iexact H3
  iintro ⟨H0, H1, H2, H3⟩
  isplitl [Hr]; · iexact Hr
  isplitl [HO]; · iexact HO
  isplitl [H0]; · iexists _; isplitr; swap; (· iexact H0); ipureintro; exact rfl
  isplitl [H1]; · iexists _; isplitr; swap; (· iexact H1); ipureintro; exact rfl
  isplitl [H2]; · iexists _; isplitr; swap; (· iexact H2); ipureintro; exact rfl
  iexists _; isplitr; swap; (· iexact H3)
  ipureintro
  exact ⟨d0, d1, d2, by rw [← e0, ← e1, ← e2]⟩

/-! ## The region as a step of the program -/

/-- The pipeline's configuration is admissible. -/
abbrev adm : (p : Fin 1) → (pcfgs (F := F) p).Adm := fun p => (cfgs p).toPCfg_adm

/-- The data as a family over the program's one pipeline. -/
def rdats : (p : Fin 1) → (c : Dev nD) → Pipeline.RDat τ (Elt F) (HIx 1) ℕ UU ℕ (Pipeline.pin (pcfgs (F := F)) adm p) c :=
  fun _ c => rdat V c

/-- The result's array after the region: every block written back, each at something the body may have left. -/
def Projected (c : Dev nD) (G : Buf (Elt F) ((c : Thread nD τ).loc main_v3)) : Prop := (rdat V c).ArrAt 3 cfg1.N G

set_option backward.isDefEq.respectTransparency.types false in
/-- The region: entered with its four arrays held at their contents, left with the inputs as they were and the result at
    something `Projected`. -/
def reg : Pipeline.RDat.RegionSeg (pcfgs (F := F)) adm (rdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obligation V c
  hwaits := Pipeline.RDat.hwaits_of_owed_zero _ _ _ _ (K (F := F)).L (K (F := F)).lev 0 fun _ _ => rfl
  pre c := iprop((bigSep Finset.univ fun w : Fin 4 => ((c : Thread nD τ).loc (Pipeline.arrRef spec1 w)) ↦{fullShare} V c (Pipeline.arrRef spec1 w)) ∗ ∃ W, owes (c : Thread nD τ) (0 : CellTallies nD τ sig (HIx 1)) W)
  post c := iprop((bigSep Finset.univ fun w : Fin 4 => iprop(∃ G, ⌜(rdat V c).ArrAt w cfg1.N G⌝ ∗ ((c : Thread nD τ).loc (Pipeline.arrRef spec1 w)) ↦{fullShare} G)) ∗ ∃ W, owes (c : Thread nD τ) (0 : CellTallies nD τ sig (HIx 1)) W)
  X _ := BI.emp
  Y _ := BI.emp
  Z _ := BI.emp
  hentry c := by
    rw [Pipeline.ownSems0_none, Pipeline.RDat.arrays_eq (pcfgs (F := F)) adm (rdats V) 0 c launch1.arr_whole ((rdats V 0 c).share_full fun _ => rfl)]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iempintro
  hin c := by
    rw [show (rdats V 0 c).Φ 0 = Φc c from rfl]
    iintro ⟨-, -, Hr⟩; iexact Hr
  hout c := by
    rw [Pipeline.ownSems0_none, show (rdats V 0 c).Φ (Fin.last _) = Φc c from rfl]
    iintro Hr
    isplitr; · iempintro
    isplitr; · iempintro
    iexact Hr
  hexit c := by
    rw [Pipeline.RDat.arraysAt_eq (pcfgs (F := F)) adm (rdats V) 0 c launch1.arr_whole ((rdats V 0 c).share_full fun _ => rfl)]
    iintro ⟨Ha, HO, -, -⟩
    imodintro
    isplitl [Ha]; · iexact Ha
    unfold Pipeline.RDat.owesAt Pipeline.owesWithin
    icases HO with ⟨%W, -, HO⟩; iexists W; iexact HO

end Cert.Proof

end
-- ==== Proof.Arrays.lean ====
/-
  The program's run on the TensorCore: what the SparseCores' call takes and hands back, the arrays through the program,
  and what the launch starts from.
-/
module

public import proofs.«01_k».proof.Proof.Body
public import proofs.«01_k».proof.Proof.Region

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.Transfers (Batch pending)

variable {F : FTy → Type}

local notation "𝕄" => MT nD τ sig (HIx 1) (Elt F) ℕ UU ℕ

variable (m : (ℓ : Loc nD τ sig) → Buf (Elt F) ℓ) (ρ : Dev nD → PrngReg)

open Idealize.ShloMosaic.TcCoe

/-! ## What the call takes for its two SparseCores, and what it hands back -/

/-- The two halves of the gathered rows are apart. -/
theorem half_disjoint : Disjoint (half 0) (half 1) := by
  rw [Finset.disjoint_left]; intro j h0 h1
  simp only [half, Finset.mem_filter, Finset.mem_univ, true_and] at h0 h1
  omega

/-- Together they are all of them. -/
theorem half_univ : half 0 ∪ half 1 = Finset.univ := by
  ext j
  have hj : (j 0).val < 1024 := (j 0).isLt
  simp only [half, Finset.mem_union, Finset.mem_filter, Finset.mem_univ, true_and, iff_true]
  omega

/-- An array held whole is its two halves held. -/
theorem halves_eq (d : Dev nD) (f : Buf (Elt F) (oLoc d)) :
    (oLoc d ↦{fullShare} f : sProp 𝕄) = iprop((oLoc d ↦[half 0]{fullShare} f) ∗ oLoc d ↦[half 1]{fullShare} f) := by
  have h : (oLoc d ↦[half 0 ∪ half 1]{fullShare} f : sProp 𝕄) = _ := BI.Entails.antisymm (pointsTo_union half_disjoint).1 (pointsTo_union half_disjoint).2
  rw [half_univ] at h; exact h

/-- An array held whole is its two half shares held. -/
theorem shares_eq (ℓ : Loc nD τ sig) (f : Buf (Elt F) ℓ) :
    (ℓ ↦{fullShare} f : sProp 𝕄) = iprop((ℓ ↦{shareC 0} f) ∗ ℓ ↦{shareC 1} f) :=
  BI.Entails.antisymm (pointsTo_share (PosShare.mem_left_op_right fullShare)).1 (pointsTo_share (PosShare.mem_left_op_right fullShare)).2

/-- A conjunction over the call's two SparseCores. -/
theorem bigSep_cores (Φ : Fin ((K (F := F)).nCore 0) → sProp 𝕄) : bigSep Finset.univ Φ = iprop(Φ (⟨0, Nat.zero_lt_two⟩ : Fin 2) ∗ Φ (⟨1, Nat.one_lt_two⟩ : Fin 2)) :=
  bigSep_univ_eq_bigSepL [(⟨0, Nat.zero_lt_two⟩ : Fin 2), ⟨1, Nat.one_lt_two⟩] (by decide) (by decide) Φ

/-- Three things held twice over, gathered thing by thing. -/
theorem regroup (A B C A' B' C' : sProp 𝕄) : iprop((A ∗ B ∗ C) ∗ A' ∗ B' ∗ C') = iprop((A ∗ A') ∗ (B ∗ B') ∗ C ∗ C') := by
  have h1 : iprop((A ∗ B ∗ C) ∗ A' ∗ B' ∗ C') ⊢ iprop((A ∗ A') ∗ (B ∗ B') ∗ C ∗ C') := by
    iintro ⟨⟨A, B, C⟩, A', B', C'⟩
    isplitl [A A']; · isplitl [A] <;> iassumption
    isplitl [B B']; · isplitl [B] <;> iassumption
    isplitl [C] <;> iassumption
  have h2 : iprop((A ∗ A') ∗ (B ∗ B') ∗ C ∗ C') ⊢ iprop((A ∗ B ∗ C) ∗ A' ∗ B' ∗ C') := by
    iintro ⟨⟨A, A'⟩, ⟨B, B'⟩, C, C'⟩
    isplitl [A B C]
    · isplitl [A]; · iexact A
      isplitl [B] <;> iassumption
    · isplitl [A']; · iexact A'
      isplitl [B'] <;> iassumption
  exact BI.Entails.antisymm h1 h2

/-- What the call takes: the indices, the table and the rows' buffer, whole. -/
theorem st0_eq (d : Dev nD) : (bigSep Finset.univ fun c : Fin ((K (F := F)).nCore 0) => (P m).st 0 d c)
    = iprop((iLoc d ↦{fullShare} m (iLoc d)) ∗ (tLoc d ↦{fullShare} m (tLoc d)) ∗ oLoc d ↦{fullShare} m (oLoc d)) := by
  rw [bigSep_cores, shares_eq (iLoc d), shares_eq (tLoc d), halves_eq d]
  exact regroup _ _ _ _ _ _

/-- What it hands back: the same, the rows gathered. -/
theorem dn0_eq (d : Dev nD) : (bigSep Finset.univ fun c : Fin ((K (F := F)).nCore 0) => (P m).dn 0 d c)
    = iprop((iLoc d ↦{fullShare} m (iLoc d)) ∗ (tLoc d ↦{fullShare} m (tLoc d)) ∗ oLoc d ↦{fullShare} gath m d) := by
  rw [bigSep_cores, shares_eq (iLoc d), shares_eq (tLoc d), halves_eq d]
  exact regroup _ _ _ _ _ _

/-! ## The TensorCore's arrays through the program -/

variable [FloatOps F]

/-- The indices. -/
abbrev rIds : DevRef τ sig := Proc.devRef .tc (main_arg0 : Ref sig .tc)
/-- The table. -/
abbrev rTab : DevRef τ sig := Proc.devRef .tc (main_arg1 : Ref sig .tc)
/-- The projection's weight. -/
abbrev rWgt : DevRef τ sig := Proc.devRef .tc (main_arg2 : Ref sig .tc)
/-- The projection's bias. -/
abbrev rBias : DevRef τ sig := Proc.devRef .tc (main_arg3 : Ref sig .tc)
/-- The gathered rows. -/
abbrev rEmb : DevRef τ sig := Proc.devRef .tc (main_v0 : Ref sig .tc)
/-- The bias as a row. -/
abbrev rBiasRow : DevRef τ sig := Proc.devRef .tc (main_v1 : Ref sig .tc)
/-- The transposed weight. -/
abbrev rWgtT : DevRef τ sig := Proc.devRef .tc (main_v2 : Ref sig .tc)
/-- The projection's result, transposed. -/
abbrev rOutT : DevRef τ sig := Proc.devRef .tc (main_v3 : Ref sig .tc)
/-- The result. -/
abbrev rOut : DevRef τ sig := Proc.devRef .tc (main_v4 : Ref sig .tc)

/-- The bias as a row; the weight transposed; the result transposed. -/
abbrev opRow : HloOp τ sig (Elt F) := StableHlo.reshape main_arg3 main_v1 (rfl : (.f32 : EltTy) = .f32) shapeCasts_S100000_S1x100000
/-- The step that transposes the weight. -/
abbrev opWgt : HloOp τ sig (Elt F) := StableHlo.unary main_arg2 main_v2 ((transpose S64x100000 [1, 0] · transposes_S100000x64_S64x100000_1_0) : (⟨S100000x64, .f32⟩ : BufTy).Contents (Elt F) → (⟨S64x100000, .f32⟩ : BufTy).Contents (Elt F))
/-- The step that transposes the projection's result. -/
abbrev opOut : HloOp τ sig (Elt F) := StableHlo.unary main_v3 main_v4 ((transpose S1024x100000 [1, 0] · transposes_S100000x1024_S1024x100000_1_0) : (⟨S100000x1024, .f32⟩ : BufTy).Contents (Elt F) → (⟨S1024x100000, .f32⟩ : BufTy).Contents (Elt F))

/-- The TensorCore's arrays. -/
abbrev S9 : Finset (DevRef τ sig) := {rIds, rTab, rEmb, rWgt, rBias, rBiasRow, rWgtT, rOutT, rOut}

omit [FloatOps F] in
/-- The TensorCore's arrays held together are each of them held. -/
theorem held_S9 (d : Dev nD) (W : Valuation τ sig (Elt F)) :
    (held (T d) S9 W : sProp 𝕄) = iprop((iLoc d ↦{fullShare} W rIds) ∗ (tLoc d ↦{fullShare} W rTab) ∗ (oLoc d ↦{fullShare} W rEmb)
      ∗ ((SparseCore.T d).loc main_arg2 ↦{fullShare} W rWgt) ∗ ((SparseCore.T d).loc main_arg3 ↦{fullShare} W rBias)
      ∗ ((SparseCore.T d).loc main_v1 ↦{fullShare} W rBiasRow) ∗ ((SparseCore.T d).loc main_v2 ↦{fullShare} W rWgtT)
      ∗ ((SparseCore.T d).loc main_v3 ↦{fullShare} W rOutT) ∗ (SparseCore.T d).loc main_v4 ↦{fullShare} W rOut) := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
/-- The TensorCore's arrays of the launch, one by one. -/
theorem unscopedBufs_eq (d : Dev nD) (W : (b : Ref sig .tc) → Buf (Elt F) ((d.tc : Thread nD τ).loc b)) :
    (unscopedBufs d W : sProp 𝕄) = iprop((iLoc d ↦{fullShare} W main_arg0) ∗ (tLoc d ↦{fullShare} W main_arg1) ∗ (oLoc d ↦{fullShare} W main_v0)
      ∗ ((SparseCore.T d).loc main_arg2 ↦{fullShare} W main_arg2) ∗ ((SparseCore.T d).loc main_arg3 ↦{fullShare} W main_arg3)
      ∗ ((SparseCore.T d).loc main_v1 ↦{fullShare} W main_v1) ∗ ((SparseCore.T d).loc main_v2 ↦{fullShare} W main_v2)
      ∗ ((SparseCore.T d).loc main_v3 ↦{fullShare} W main_v3) ∗ (SparseCore.T d).loc main_v4 ↦{fullShare} W main_v4) := by
  unfold unscopedBufs
  rw [show (Finset.univ.filter fun b : Ref sig .tc => ¬ b.isScoped) = {main_arg0, main_arg1, main_v0, main_arg2, main_arg3, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The region's result on device `d`. -/
abbrev pLoc (d : Dev nD) : Loc nD τ sig := (SparseCore.T d).loc main_v3

/-- The arrays at launch; after the SparseCores' call; after the bias is made a row; after the weight is transposed. -/
def V0 (d : Dev nD) : Valuation τ sig (Elt F) := fun b => m (d, b)
/-- The arrays after the gather. -/
def V1 (d : Dev nD) : Valuation τ sig (Elt F) := Function.update (V0 m d) rEmb (gath m d)
/-- The arrays once the bias is a row. -/
def V2 (d : Dev nD) : Valuation τ sig (Elt F) := (opRow (F := F)).result (V1 m d)
/-- The arrays once the weight is transposed. -/
def V3 (d : Dev nD) : Valuation τ sig (Elt F) := (opWgt (F := F)).result (V2 m d)
/-- After the region, whose result's array then holds `G`; after the result is transposed. -/
def V4 (d : Dev nD) (G : Buf (Elt F) (pLoc d)) : Valuation τ sig (Elt F) := Function.update (V3 m d) rOutT G
/-- The arrays at the end. -/
def V5 (d : Dev nD) (G : Buf (Elt F) (pLoc d)) : Valuation τ sig (Elt F) := (opOut (F := F)).result (V4 m d G)

/-- The arrays as the region finds them. -/
def VR (c : Dev nD) (b : Ref sig .tc) : Buf (Elt F) ((c : Thread nD τ).loc b) := V3 m c (Proc.devRef .tc b)

omit [FloatOps F] in
/-- The launch hands the arrays over at their launch contents. -/
theorem unscoped_held (d : Dev nD) : (unscopedBufs d (fun b => m ((SparseCore.T d).loc b)) : sProp 𝕄) = held (T d) S9 (V0 m d) := by
  rw [unscopedBufs_eq, held_S9]; rfl

/-- After the gather the rows are gathered. -/
theorem V1_emb (d : Dev nD) : V1 m d rEmb = gath m d := Function.update_self _ _ _
/-- The gather changes no other array. -/
theorem V1_ne (d : Dev nD) (b : DevRef τ sig) (hb : b ≠ rEmb) : V1 m d b = m (d, b) := Function.update_of_ne hb _ _
/-- Making the bias a row changes no other array. -/
theorem V2_ne (d : Dev nD) (b : DevRef τ sig) (hb : b ∉ ({rBiasRow} : Finset (DevRef τ sig))) : V2 m d b = V1 m d b := (opRow (F := F)).result_of_not_mem (V1 m d) hb
/-- Transposing the weight changes no other array. -/
theorem V3_ne (d : Dev nD) (b : DevRef τ sig) (hb : b ∉ ({rWgtT} : Finset (DevRef τ sig))) : V3 m d b = V2 m d b := (opWgt (F := F)).result_of_not_mem (V2 m d) hb
/-- The projection changes no array but its result. -/
theorem V4_ne (d : Dev nD) (G) (b : DevRef τ sig) (hb : b ≠ rOutT) : V4 m d G b = V3 m d b := Function.update_of_ne hb _ _
/-- The projection leaves its result. -/
theorem V4_out (d : Dev nD) (G) : V4 m d G rOutT = G := Function.update_self _ _ _
/-- Transposing the result changes no other array. -/
theorem V5_ne (d : Dev nD) (G) (b : DevRef τ sig) (hb : b ∉ ({rOut} : Finset (DevRef τ sig))) : V5 m d G b = V4 m d G b := (opOut (F := F)).result_of_not_mem (V4 m d G) hb

/-- An argument is at its launch contents at the end. -/
theorem V5_arg (d : Dev nD) (G) (b : DevRef τ sig) (h0 : b ≠ rEmb) (h1 : b ∉ ({rBiasRow} : Finset (DevRef τ sig))) (h2 : b ∉ ({rWgtT} : Finset (DevRef τ sig)))
    (h3 : b ≠ rOutT) (h4 : b ∉ ({rOut} : Finset (DevRef τ sig))) : V5 m d G b = m (d, b) := by
  rw [V5_ne m d G b h4, V4_ne m d G b h3, V3_ne m d b h2, V2_ne m d b h1, V1_ne m d b h0]

/-- The first step's arrays are among the TensorCore's. -/
theorem hRow : (opRow (F := F)).bufs ⊆ S9 := show ({rBias, rBiasRow} : Finset (DevRef τ sig)) ⊆ S9 by decide
/-- The second step's arrays are among the TensorCore's. -/
theorem hWgt : (opWgt (F := F)).bufs ⊆ S9 := show ({rWgt, rWgtT} : Finset (DevRef τ sig)) ⊆ S9 by decide
/-- The last step's arrays are among the TensorCore's. -/
theorem hOut : (opOut (F := F)).bufs ⊆ S9 := show ({rOutT, rOut} : Finset (DevRef τ sig)) ⊆ S9 by decide

/-! ## The launch element -/

/-- The handshakes' rounds; the region's rounds; no counter. -/
def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

/-- What the region's run is entered with beside the arrays: its cells' rounds and its transfers' tokens. -/
def G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
/-- Nothing, any number of times, is nothing. -/
theorem bigSep_none {I : Type} (s : Finset I) : (bigSep s fun _ => iprop(emp)) = (iprop(emp) : sProp 𝕄) := bigSep_emp_const s

/-- The launch element gives the handshakes' rounds, the region's ghost state, and nothing for the threads. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  have hG : iprop((bigSep Finset.univ fun c : Dev nD => bigSep Finset.univ fun p : Fin 1 => Pipeline.cellsGhost (Pipeline.pin (pcfgs (F := F)) adm) (EP (F := F)) p c)
      ∗ (bigSep Finset.univ fun c : Dev nD => bigSep Finset.univ fun p : Fin 1 => (Pipeline.toksInit (Pipeline.pin (pcfgs (F := F)) adm) (EP (F := F)) p c : sProp 𝕄)))
      ⊢ bigSep Finset.univ fun d : Dev nD => G (F := F) d := by
    rw [bigSep_univ_of_subsingleton (0 : Dev nD), bigSep_univ_of_subsingleton (0 : Dev nD), bigSep_univ_of_subsingleton (0 : Dev nD),
      bigSep_univ_of_subsingleton (0 : Fin 1), bigSep_univ_of_subsingleton (0 : Fin 1)]
    exact BI.Entails.refl _
  unfold u₀
  iintro Hu
  ihave H := (ownU_pair _ _) $$ Hu
  icases H with ⟨HH, HR⟩
  ihave HR' := (own_pair_emb (embR : Emb (UR sig nD τ × Counters) 𝕄) _ _) $$ HR
  icases HR' with ⟨HP, -⟩
  imod (Pipeline.fund_ghost (Pipeline.pin (pcfgs (F := F)) adm) (EP (F := F)) cellOf_inj) $$ HP with ⟨Hc, Ht⟩
  imodintro
  isplitl [HH]; · iexact HH
  isplitl [Hc Ht]
  · iapply hG; isplitl [Hc] <;> iassumption
  iempintro

end Cert.Proof

end
-- ==== Proof.Run.lean ====
/-
  The program's run on the TensorCore, the launch, and the claim about the final memory and semaphores.
-/
module

public import proofs.«01_k».proof.Proof.Arrays

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.Transfers (Batch pending)

variable {F : FTy → Type}

local notation "𝕄" => MT nD τ sig (HIx 1) (Elt F) ℕ UU ℕ

variable (m : (ℓ : Loc nD τ sig) → Buf (Elt F) ℓ) (ρ : Dev nD → PrngReg)
variable [FloatOps F] [∀ e, Nonempty (Elt F e)]

open Idealize.ShloMosaic.TcCoe

/-! ## The region inside the program -/

set_option backward.isDefEq.respectTransparency.types false in
/-- The region's call, from its four arrays, the launch's levels and its own ghost state. -/
theorem region_step (d : Dev nD) (Φ : PUnit → sProp 𝕄) :
    iprop(boundary (T d : Thread nD τ) ∗ (reg (VR m)).pre d ∗ levAts (K (F := F)).L (K (F := F)).lev ∗ G (F := F) d
        ∗ (iprop(boundary (T d : Thread nD τ) ∗ (reg (VR m)).post d) -∗ Φ ⟨⟩))
      ⊢ wp frame (wpE ((K (F := F)).defs (D (F := F))) 𝒱 (SparseCore.T d) none) Set.univ
          (Prog.lift (.customCall (SparseCore.inner (Pipeline.entry 0)) ())) Φ := by
  have hprog : (Prog.lift (.customCall (SparseCore.inner (Pipeline.entry 0)) ()) : Prog (TpuEff nD τ sig (Elt F) (SparseCore.Sig (ΛP (F := F)) 1) .tc) PUnit)
      = SparseCore.liftProg (Prog.op (.customCall (Pipeline.entry 0) ()) Prog.ret : Prog (TpuEff nD τ sig (Elt F) (ΛP (F := F)) .tc) PUnit) := rfl
  rw [hprog]
  have h1 := (K (F := F)).wp_liftProg (D (F := F)) 𝒱 (SparseCore.T d) (Set.univ : Set ℕ) none (Prog.op (.customCall (Pipeline.entry 0) ()) Prog.ret : Prog (TpuEff nD τ sig (Elt F) (ΛP (F := F)) .tc) PUnit) Φ
  have h2 := Pipeline.RDat.RegionSeg.wp (pcfgs (F := F)) adm (rdats (VR m)) (none : HIx 1) cellOf_inj (EP (F := F)) defs₀ 𝒱₀
    (K (F := F)).L (K (F := F)).lev (reg (VR m)) d none (fun _ h => nomatch h) .ret Φ
  refine BI.Entails.trans ?_ (BI.Entails.trans h2 h1)
  show (_ : sProp 𝕄) ⊢ _
  unfold G
  iintro ⟨Hb, Hpre, Hl, ⟨Hc, Ht⟩, Hk⟩
  isplitl [Hk]
  · iintro H
    rw [wp_ret]; imodintro
    iapply Hk; iexact H
  isplitl [Hb]; · iexact Hb
  isplitl [Hpre]; · iexact Hpre
  isplitl [Hl]; · iexact Hl
  isplitl [Hc] <;> iassumption

set_option backward.isDefEq.respectTransparency.types false in
/-- What the region is entered with, one array at a time. -/
theorem reg_pre (d : Dev nD) : (reg (VR m)).pre d = iprop(((SparseCore.T d).loc main_v2 ↦{fullShare} V3 m d rWgtT) ∗ (oLoc d ↦{fullShare} V3 m d rEmb)
    ∗ ((SparseCore.T d).loc main_v1 ↦{fullShare} V3 m d rBiasRow) ∗ (pLoc d ↦{fullShare} V3 m d rOutT)
    ∗ ∃ W, owes (SparseCore.T d : Thread nD τ) (0 : CellTallies nD τ sig (HIx 1)) W) := by
  have h : (reg (VR m)).pre d = iprop((((SparseCore.T d).loc main_v2 ↦{fullShare} V3 m d rWgtT) ∗ (oLoc d ↦{fullShare} V3 m d rEmb)
    ∗ ((SparseCore.T d).loc main_v1 ↦{fullShare} V3 m d rBiasRow) ∗ (pLoc d ↦{fullShare} V3 m d rOutT))
    ∗ ∃ W, owes (SparseCore.T d : Thread nD τ) (0 : CellTallies nD τ sig (HIx 1)) W) := by
    unfold reg
    simp only [bigSep_W1]; rfl
  rw [h]
  have h1 (A B C D' E : sProp 𝕄) : iprop((A ∗ B ∗ C ∗ D') ∗ E) ⊢ iprop(A ∗ B ∗ C ∗ D' ∗ E) := by
    iintro ⟨⟨A, B, C, D'⟩, E⟩
    isplitl [A]; · iexact A
    isplitl [B]; · iexact B
    isplitl [C]; · iexact C
    isplitl [D'] <;> iassumption
  have h2 (A B C D' E : sProp 𝕄) : iprop(A ∗ B ∗ C ∗ D' ∗ E) ⊢ iprop((A ∗ B ∗ C ∗ D') ∗ E) := by
    iintro ⟨A, B, C, D', E⟩
    isplitl [A B C D']
    · isplitl [A]; · iexact A
      isplitl [B]; · iexact B
      isplitl [C] <;> iassumption
    iexact E
  exact BI.Entails.antisymm (h1 _ _ _ _ _) (h2 _ _ _ _ _)

set_option backward.isDefEq.respectTransparency.types false in
/-- What the region leaves, one array at a time: the inputs as they were, the result something `Projected`. -/
theorem reg_post (d : Dev nD) : (reg (VR m)).post d ⊢ iprop(((SparseCore.T d).loc main_v2 ↦{fullShare} V3 m d rWgtT) ∗ (oLoc d ↦{fullShare} V3 m d rEmb)
    ∗ ((SparseCore.T d).loc main_v1 ↦{fullShare} V3 m d rBiasRow) ∗ (∃ g, ⌜Projected (VR m) d g⌝ ∗ pLoc d ↦{fullShare} g)
    ∗ ∃ W, owes (SparseCore.T d : Thread nD τ) (0 : CellTallies nD τ sig (HIx 1)) W) := by
  have h : (reg (VR m)).post d = iprop(((∃ g, ⌜(rdat (VR m) d).ArrAt 0 cfg1.N g⌝ ∗ (SparseCore.T d).loc main_v2 ↦{fullShare} g)
      ∗ (∃ g, ⌜(rdat (VR m) d).ArrAt 1 cfg1.N g⌝ ∗ oLoc d ↦{fullShare} g)
      ∗ (∃ g, ⌜(rdat (VR m) d).ArrAt 2 cfg1.N g⌝ ∗ (SparseCore.T d).loc main_v1 ↦{fullShare} g)
      ∗ (∃ g, ⌜(rdat (VR m) d).ArrAt 3 cfg1.N g⌝ ∗ pLoc d ↦{fullShare} g))
    ∗ ∃ W, owes (SparseCore.T d : Thread nD τ) (0 : CellTallies nD τ sig (HIx 1)) W) := by
    unfold reg
    simp only [bigSep_W1]
  rw [h, (rdat (VR m) d).ArrAt_in 0 rfl, (rdat (VR m) d).ArrAt_in 1 rfl, (rdat (VR m) d).ArrAt_in 2 rfl]
  iintro ⟨⟨⟨%g0, %e0, A⟩, ⟨%g1, %e1, B⟩, ⟨%g2, %e2, C⟩, ⟨%g3, %e3, D'⟩⟩, E⟩
  subst e0 e1 e2
  isplitl [A]; · iexact A
  isplitl [B]; · iexact B
  isplitl [C]; · iexact C
  isplitl [D']
  · iexists g3; isplitr
    · ipureintro; exact e3
    iexact D'
  iexact E

/-- What the TensorCore keeps of the handshakes after the call. -/
def tcKept (d : Dev nD) : sProp 𝕄 :=
  iprop(atPos (EH (F := F)) ((K (F := F)).doneCell d) 1 ∅ 0 ∗ reached (EH (F := F)) ((K (F := F)).doneCell d) 1
    ∗ (bigSep Finset.univ fun c : Fin τ.nSC => reached (EH (F := F)) ((K (F := F)).startCell d c) ((K (F := F)).sRank c 1))
    ∗ bigSep (SparseCore.Cfg.callsFrom 1) fun q : Fin 1 => bigSep Finset.univ fun c : Fin ((K (F := F)).nCore q) =>
        iprop(dutyTok (EH (F := F)) ((K (F := F)).startCell d ((K (F := F)).core q c)) ((K (F := F)).sRank ((K (F := F)).core q c) q.val) 0 ∗ cred (tallyAt ((K (F := F)).doneCell d) (some q) 1)))

/-- After the call the TensorCore owes nothing, whatever it has waited on. -/
theorem tcSt_one (d : Dev nD) : ((K (F := F)).tcSt EH d 1 : sProp 𝕄)
    = iprop((∃ W, owes (SparseCore.T d : Thread nD τ) (0 : CellTallies nD τ sig (HIx 1)) W) ∗ tcKept d) := by
  have hO : (K (F := F)).Otc d 1 = (0 : CellTallies nD τ sig (HIx 1)) := by
    unfold SparseCore.Cfg.Otc
    exact Finset.sum_eq_zero fun q _ => if_neg (by omega)
  have hW (W : Waits sig (HIx 1)) : (K (F := F)).WBelow (SparseCore.T d) W 8 := by
    intro p _
    rcases p.2 with _ | q
    · exact Nat.zero_le _
    · show 8 * q.val + 6 + 1 ≤ 8
      omega
  have h : ((K (F := F)).tcSt EH d 1 : sProp 𝕄)
      = iprop((∃ W, ⌜(K (F := F)).WBelow (SparseCore.T d) W 8⌝ ∗ owes (SparseCore.T d : Thread nD τ) ((K (F := F)).Otc d 1) W) ∗ tcKept d) := rfl
  rw [h, hO]
  have h1 : iprop((∃ W, ⌜(K (F := F)).WBelow (SparseCore.T d) W 8⌝ ∗ owes (SparseCore.T d : Thread nD τ) (0 : CellTallies nD τ sig (HIx 1)) W) ∗ tcKept (F := F) d)
      ⊢ iprop((∃ W, owes (SparseCore.T d : Thread nD τ) (0 : CellTallies nD τ sig (HIx 1)) W) ∗ tcKept (F := F) d) := by
    iintro ⟨⟨%W, -, H⟩, Hk⟩
    isplitl [H]; · iexists W; iexact H
    iexact Hk
  have h2 : iprop((∃ W, owes (SparseCore.T d : Thread nD τ) (0 : CellTallies nD τ sig (HIx 1)) W) ∗ tcKept (F := F) d)
      ⊢ iprop((∃ W, ⌜(K (F := F)).WBelow (SparseCore.T d) W 8⌝ ∗ owes (SparseCore.T d : Thread nD τ) (0 : CellTallies nD τ sig (HIx 1)) W) ∗ tcKept (F := F) d) := by
    iintro ⟨⟨%W, H⟩, Hk⟩
    isplitl [H]
    · iexists W; isplitr
      · ipureintro; exact hW W
      iexact H
    iexact Hk
  exact BI.Entails.antisymm h1 h2

/-- What the program leaves the claim: the arrays, the region's result something `Projected`. -/
def FIN (d : Dev nD) : sProp 𝕄 := iprop(∃ g, ⌜Projected (VR m) d g⌝ ∗ held (T d) S9 (V5 m d g))

/-- The program on device `d`'s TensorCore: the SparseCores' call, the bias made a row, the weight transposed, the region,
    the result transposed. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  have e1 : V1 m d rIds = m (iLoc d) := V1_ne m d _ (by decide)
  have e2 : V1 m d rTab = m (tLoc d) := V1_ne m d _ (by decide)
  have e3 : V1 m d rEmb = gath m d := V1_emb m d
  have e4 : V1 m d rWgt = V0 m d rWgt := V1_ne m d _ (by decide)
  have e5 : V1 m d rBias = V0 m d rBias := V1_ne m d _ (by decide)
  have e6 : V1 m d rBiasRow = V0 m d rBiasRow := V1_ne m d _ (by decide)
  have e7 : V1 m d rWgtT = V0 m d rWgtT := V1_ne m d _ (by decide)
  have e8 : V1 m d rOutT = V0 m d rOutT := V1_ne m d _ (by decide)
  have e9 : V1 m d rOut = V0 m d rOut := V1_ne m d _ (by decide)
  have hst : ((K (F := F)).tcSt EH d ((0 : Fin 1).val + 1) : sProp 𝕄)
      = iprop((∃ W, owes (SparseCore.T d : Thread nD τ) (0 : CellTallies nD τ sig (HIx 1)) W) ∗ tcKept d) := tcSt_one d
  have hV3 : (held (T d) S9 ((opWgt (F := F)).result (V2 m d)) : sProp 𝕄) = held (T d) S9 (V3 m d) := rfl
  unfold SparseCore.Cfg.tcRes SparseCore.Cfg.tcEnd
  rw [unscoped_held]
  simp only [main, wp_bind, wp_pure]
  iintro ⟨#Hctx, Hst, ⟨Hb, Hheld, Hts, -⟩, HG⟩
  ihave Hlv := ((K (F := F)).ctx_levAts κ) $$ Hctx
  ihave Hh := (Entails.of_eq (held_S9 (F := F) d _)) $$ Hheld
  icases Hh with ⟨Hi, Ht, Ho, Hw, Hbi, Hv1, Hv2, Hv3, Hv4⟩
  iapply ((K (F := F)).wp_run (D (F := F)) 𝒱 (EH := EH) (P := P m) κ d 0) $$ [Hst Hi Ht Ho Hw Hbi Hv1 Hv2 Hv3 Hv4 Hb Hts HG Hlv]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, Ht, Ho⟩
  iapply (wp_hlo_within 𝒱 (SparseCore.T d) none Set.univ (op := opRow) (S := S9) hRow (V := V1 m d)) $$ [Hb Hi Ht Ho Hw Hbi Hv1 Hv2 Hv3 Hv4]
  · isplitl [Hb]; · iexact Hb
    rw [held_S9, e1, e2, e3, e4, e5, e6, e7, e8, e9]
    isplitl [Hi]; · iexact Hi
    isplitl [Ht]; · iexact Ht
    isplitl [Ho]; · iexact Ho
    isplitl [Hw]; · iexact Hw
    isplitl [Hbi]; · iexact Hbi
    isplitl [Hv1]; · iexact Hv1
    isplitl [Hv2]; · iexact Hv2
    isplitl [Hv3]; · iexact Hv3
    iexact Hv4
  iintro ⟨Hb, Hheld⟩
  rw [wp_ret]; imodintro
  iapply (wp_hlo_within 𝒱 (SparseCore.T d) none Set.univ (op := opWgt) (S := S9) hWgt (V := V2 m d)) $$ [Hb Hheld]
  · isplitl [Hb]; · iexact Hb
    iexact Hheld
  iintro ⟨Hb, Hheld⟩
  rw [wp_ret]; imodintro
  ihave Hst' := (Entails.of_eq hst) $$ Hst
  icases Hst' with ⟨HO, Hkept⟩
  ihave Hh := (Entails.of_eq (hV3.trans (held_S9 (F := F) d (V3 m d)))) $$ Hheld
  icases Hh with ⟨Hi, Ht, Ho, Hw, Hbi, Hv1, Hv2, Hv3, Hv4⟩
  iapply (region_step m d _)
  isplitl [Hb]; · iexact Hb
  isplitl [HO Hv2 Ho Hv1 Hv3]
  · rw [reg_pre]
    isplitl [Hv2]; · iexact Hv2
    isplitl [Ho]; · iexact Ho
    isplitl [Hv1]; · iexact Hv1
    isplitl [Hv3]; · iexact Hv3
    iexact HO
  isplitr; · iexact Hlv
  isplitl [HG]; · iexact HG
  iintro ⟨Hb, Hpost⟩
  ihave Hpost' := (reg_post m d) $$ Hpost
  icases Hpost' with ⟨Hv2, Ho, Hv1, ⟨%g, %hg, Hv3⟩, HO⟩
  have f (b : DevRef τ sig) (hb : b ≠ rOutT) : V4 m d g b = V3 m d b := V4_ne m d g b hb
  iapply (wp_hlo_within 𝒱 (SparseCore.T d) none Set.univ (op := opOut) (S := S9) hOut (V := V4 m d g)) $$ [Hb Hi Ht Ho Hw Hbi Hv1 Hv2 Hv3 Hv4]
  · isplitl [Hb]; · iexact Hb
    rw [held_S9, f rIds (by decide), f rTab (by decide), f rEmb (by decide), f rWgt (by decide), f rBias (by decide), f rBiasRow (by decide),
      f rWgtT (by decide), f rOut (by decide), V4_out]
    isplitl [Hi]; · iexact Hi
    isplitl [Ht]; · iexact Ht
    isplitl [Ho]; · iexact Ho
    isplitl [Hw]; · iexact Hw
    isplitl [Hbi]; · iexact Hbi
    isplitl [Hv1]; · iexact Hv1
    isplitl [Hv2]; · iexact Hv2
    isplitl [Hv3]; · iexact Hv3
    iexact Hv4
  iintro ⟨Hb, Hheld⟩
  rw [wp_ret]; imodintro; imodintro
  rw [tcSt_one]
  isplitl [HO Hkept]
  · isplitl [HO]; · iexact HO
    iexact Hkept
  isplitl [Hheld]
  · unfold FIN
    iexists g; isplitr
    · ipureintro; exact hg
    iexact Hheld
  isplitl [Hb] <;> iassumption

/-! ## The final memory -/

/-- What the final memory of device `d` is: each of the TensorCore's arrays at what the program leaves there. -/
def fq (d : Dev nD) (s' : Phys nD τ sig (Elt F)) : Prop :=
  ∃ g, Projected (VR m) d g ∧ ∀ b ∈ S9, s'.mem.mem (d, b) = V5 m d g b

/-- An array held at some contents is an array of the memory at those contents. -/
theorem agree (d : Dev nD) (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- The arrays held at a valuation, one read at a time. -/
theorem held_agree (d : Dev nD) (s' : Phys nD τ sig (Elt F)) (W : Valuation τ sig (Elt F)) (b : DevRef τ sig) (hb : b ∈ S9) :
    iprop(held (T d) S9 W ∗ SI s') ⊢ (⌜s'.mem.mem (d, b) = W b⌝ : sProp 𝕄) := by
  have h : (held (T d) S9 W : sProp 𝕄) ⊢ ((d, b) : Loc nD τ sig) ↦{fullShare} W b := BI.bigSep_elim hb
  exact (BI.sep_mono h (BI.Entails.refl _)).trans (agree d s' (d, b) (W b))

/-- What the threads end with fixes the arrays. -/
theorem hfin (d : Dev nD) (s' : Phys nD τ sig (Elt F)) : iprop(FIN m d ∗ SI s') ⊢ (⌜fq m d s'⌝ : sProp 𝕄) := by
  unfold FIN
  iintro ⟨⟨%g, %hg, H⟩, HSI⟩
  have h : iprop(held (T d) S9 (V5 m d g) ∗ SI s') ⊢ (⌜∀ b ∈ S9, s'.mem.mem (d, b) = V5 m d g b⌝ : sProp 𝕄) := by
    exact (forall_intro fun b => (forall_intro fun hb => held_agree d s' _ b hb).trans pure_forall.2).trans pure_forall.2
  ihave H' := h $$ [H HSI]
  · isplitl [H] <;> iassumption
  icases H' with %hx
  ipureintro; exact ⟨g, hg, hx⟩

/-! ## The run -/

/-- The final states: the memory as `fq` says on every device, every semaphore at zero. -/
def QC : PUnit × MemSt nD τ sig (Elt F) → Prop := fun r =>
  (∀ d : Dev nD, ∃ g, Projected (VR m) d g ∧ ∀ b ∈ S9, r.2.mem (d, b) = V5 m d g b) ∧ r.2.sem = fun _ => 0

/-- The program runs, over any float values, from any memory whose indices name rows of the table. -/
theorem run_main (hp : PreOK m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hp)
    (fun q hq => match q with | 0 => nomatch hq)
    (fun q hq => match q with | 0 => nomatch hq)
    m ρ main (fun d => G (F := F) d) (FIN m) (u₀ (F := F)) (sep_elim_left.trans (hu₀ m)) (hmain m ρ) (fq m) (hfin m) (QC m) (fun _ h hz => ⟨h, hz⟩)

end Cert.Proof

end
-- ==== Proof.Pre.lean ====
/-
  What the precondition says of the indices: each of the 1024 is the number of a row of the 100000-row table. And the
  array that, under it, the program and the reference both compute.
-/
module

public import proofs.«01_k».proof.Defs
public import Idealize.ShloMosaic.Lib.ReduceAll
public import Idealize.ShloMosaic.Lib.Pointwise
public import proofs.«01_k».proof.Proof.Gen.Pre_ids_in_vocab
public import proofs.«01_k».proof.Proof.Setup

@[expose] public section

noncomputable section

namespace Cert.Proof

open Cert.KernelIdeal

open Idealize.ShloMosaic

variable {F : FTy → Type} [FloatOps F]

/-- A word that is at least 0 and below 100000, both read signed, is below 100000. -/
theorem word_lt {w : BitVec 32} (h0 : IntOp.cmpi .sge w 0#32 = 1#1) (h1 : IntOp.cmpi .slt w 100000#32 = 1#1) : w.toNat < 100000 := by
  unfold IntOp.cmpi at h0 h1
  have a0 : (0#32).sle w = true := by
    cases e : (0#32).sle w <;> simp_all
  have a1 : w.slt 100000#32 = true := by
    cases e : w.slt 100000#32 <;> simp_all
  rw [BitVec.sle_iff_toInt_le] at a0
  rw [BitVec.slt_iff_toInt_lt] at a1
  have e0 : (0#32).toInt = 0 := by decide
  have e1 : (100000#32).toInt = 100000 := by decide
  have hw := BitVec.toInt_eq_toNat_cond w
  have hl := w.isLt
  rw [e0] at a0
  rw [e1] at a1
  split at hw <;> omega

/-- Where the precondition's array is all ones, every index is below the table's row count. -/
theorem ids_lt {ids : IVec S1024 32} {tab wgt : FVec F S100000x64 .f32} {bias : FVec F S100000 .f32}
    (h : Cert.Pre_ids_in_vocab.fn ids tab wgt bias = fun _ => 1#1) (n : S1024.Idx) : (ids n).toNat < 100000 := by
  haveI : Subsingleton Cert.Pre_ids_in_vocab.S_.Idx := ⟨fun a b => funext fun x => x.elim0⟩
  have h1 := Host.reduce_andi_all _ _ _ _ (fun x => x.elim0) (congrFun h _) n
  have h2 := IntOp.andi_eq_one.1 h1
  exact word_lt h2.1 h2.2

/-- The array both compute: at row `b` and column `v`, the table's row at index `b` against the weight's row `v`, and the
    bias's entry `v`. -/
def logits (ids : IVec S1024 32) (tab wgt : FVec Ideal S100000x64 .f32) (bias : FVec Ideal S100000 .f32)
    (h : ∀ n : S1024.Idx, (ids n).toNat < 100000) : FVec Ideal S1024x100000 .f32 :=
  fun j => (∑ k : Fin 64, tab (ix2 ⟨(ids (ix1 (j 0))).toNat, h _⟩ k) * wgt (ix2 (j 1) k)) + bias (ix1 (j 1))

end Cert.Proof

end
-- ==== Proof.Value.lean ====
/-
  What the kernel leaves in its result, element by element, at exact values.
-/
module

public import Idealize.ShloMosaic.Lib.Pipeline.ArrRel
public import Idealize.ShloMosaic.Lib.Pointwise
public import proofs.«01_k».proof.Proof.Arrays
public import proofs.«01_k».proof.Proof.Pre

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

/-! ## The result's array, element by element, at exact values -/

open Idealize.ShloMosaic.TcCoe

/-- The projection's payload at row `v` and column `b`: the weight's column `v` against row `b`, and the bias. -/
theorem pay_apply (w : Vec Ideal S64x4096 .f32) (x : Vec Ideal S1024x64 .f32) (bi : Vec Ideal S1x4096 .f32) (v : Fin 4096) (b : Fin 1024) :
    k1_pay1 w x bi (ix2 v b) = (∑ k : Fin 64, w (ix2 k v) * x (ix2 b k)) + bi (ix2 (0 : Fin 1) v) := by
  unfold k1_pay1
  pointwise

variable (V : (c : Dev nD) → (b : Ref sig .tc) → Buf (Elt Ideal) ((c : Thread nD τ).loc b))

/-- The projection of the rows `x` by a transposed weight `w` and a bias row `bi`, its result transposed. -/
def projOf (w : FVec Ideal S64x100000 .f32) (x : FVec Ideal S1024x64 .f32) (bi : FVec Ideal S1x100000 .f32) : FVec Ideal S100000x1024 .f32 :=
  fun j => (∑ k : Fin 64, w (ix2 k (j 0)) * x (ix2 (j 1) k)) + bi (ix2 (0 : Fin 1) (j 0))

/-- The projection of what the region's arrays hold on entry. -/
def proj (c : Dev nD) : Buf (Elt Ideal) ((c : Thread nD τ).loc main_v3) := projOf (V c main_v2) (V c main_v0) (V c main_v1)

/-- The blocks' positions: the weight's and the bias's block of columns, the rows whole, the result's block of rows. -/
theorem index0 : ∀ t : Fin cfg1.N, win1_0.index t = ![0, t.val] := by decide +kernel
/-- The rows are one block. -/
theorem index1 : ∀ t : Fin cfg1.N, win1_1.index t = ![0, 0] := by decide +kernel
/-- The bias's block of columns. -/
theorem index2 : ∀ t : Fin cfg1.N, win1_2.index t = ![0, t.val] := by decide +kernel
/-- The result's block of rows. -/
theorem index3 : ∀ t : Fin cfg1.N, win1_3.index t = ![t.val, 0] := by decide +kernel

/-- The last block is cut at the array's end. -/
theorem size0 : ∀ t : Fin cfg1.N, win1_0.xsize (grid1.coords t) = ![64, min 4096 (100000 - t.val * 4096)] := by decide +kernel
/-- The bias's last block is cut likewise. -/
theorem size2 : ∀ t : Fin cfg1.N, win1_2.xsize (grid1.coords t) = ![1, min 4096 (100000 - t.val * 4096)] := by decide +kernel
/-- The result's last block is cut likewise. -/
theorem size3 : ∀ t : Fin cfg1.N, win1_3.xsize (grid1.coords t) = ![min 4096 (100000 - t.val * 4096), 1024] := by decide +kernel

/-- The result's blocks cover it. -/
theorem covers3 : (cfg1.win 3).Covers := by decide +kernel

/-- The weight's block: its column `v` is column `4096 t + v` of the transposed weight, where that column is there. -/
theorem stg0_apply (c : Dev nD) (t : Fin cfg1.N) (d0 : (cfg1.win 0).block.Idx → Elt Ideal (cfg1.win 0).elt) (k : Fin 64) (v : Fin 4096)
    (h : t.val * 4096 + v.val < 100000) :
    (stg V c 0 t d0 : Vec Ideal S64x4096 .f32) (ix2 k v) = (V c main_v2 : FVec Ideal S64x100000 .f32) (ix2 k ⟨t.val * 4096 + v.val, h⟩) := by
  have hs := size0 t
  have hm : win1_0.moved (grid1.coords t) (ix2 k v) = true := (win1_0.moved_iff _ _).mpr fun a => by
    rw [hs]
    match a with
    | ⟨0, _⟩ => exact k.isLt
    | ⟨1, _⟩ => show v.val < min 4096 (100000 - t.val * 4096); omega
  refine (dif_pos hm).trans ?_
  refine (View.read_apply ..).trans ?_
  refine congrArg (V c main_v2 : S64x100000.Idx → EReal) ?_
  blk_ext [index0]

/-- The rows' block is all of them. -/
theorem stg1_apply (c : Dev nD) (t : Fin cfg1.N) (d1 : (cfg1.win 1).block.Idx → Elt Ideal (cfg1.win 1).elt) (b : Fin 1024) (k : Fin 64) :
    (stg V c 1 t d1 : Vec Ideal S1024x64 .f32) (ix2 b k) = (V c main_v0 : FVec Ideal S1024x64 .f32) (ix2 b k) := by
  have hm : win1_1.moved (grid1.coords t) (ix2 b k) = true := rfl
  have e : win1_1.fill (grid1.coords t) d1 ((win1_1.blk t).view.read (Elt Ideal) (V c main_v0)) (ix2 b k) = _ := dif_pos hm
  refine Eq.trans e ?_
  refine (View.read_apply ..).trans ?_
  refine congrArg (V c main_v0 : S1024x64.Idx → EReal) ?_
  blk_ext [index1]

/-- The bias's block: its entry `v` is entry `4096 t + v` of the bias, where that entry is there. -/
theorem stg2_apply (c : Dev nD) (t : Fin cfg1.N) (d2 : (cfg1.win 2).block.Idx → Elt Ideal (cfg1.win 2).elt) (v : Fin 4096)
    (h : t.val * 4096 + v.val < 100000) :
    (stg V c 2 t d2 : Vec Ideal S1x4096 .f32) (ix2 (0 : Fin 1) v) = (V c main_v1 : FVec Ideal S1x100000 .f32) (ix2 (0 : Fin 1) ⟨t.val * 4096 + v.val, h⟩) := by
  have hs := size2 t
  have hm : win1_2.moved (grid1.coords t) (ix2 (0 : Fin 1) v) = true := (win1_2.moved_iff _ _).mpr fun a => by
    rw [hs]
    match a with
    | ⟨0, _⟩ => exact Nat.zero_lt_one
    | ⟨1, _⟩ => show v.val < min 4096 (100000 - t.val * 4096); omega
  refine (dif_pos hm).trans ?_
  refine (View.read_apply ..).trans ?_
  refine congrArg (V c main_v1 : S1x100000.Idx → EReal) ?_
  blk_ext [index2]

/-- Whatever the region may leave in the result's array is the projection. -/
theorem projected_eq (c : Dev nD) (G : Buf (Elt Ideal) ((c : Thread nD τ).loc main_v3)) (hG : Projected V c G) : G = proj V c := by
  obtain ⟨X, hX, hA⟩ := Pipeline.RDat.ArrAt.exists_exact hG
  have e := hA (Function.update (fun _ _ _ => Classical.arbitrary _) 3 X) fun u _ _ => by rw [Function.update_self]
  rw [e]
  refine Pipeline.Dat.arrAt_eq_of_covers ((rdat V c).withAfter _) 3 (proj V c) covers3 fun t hf y => ?_
  obtain ⟨Y, -, d0, d1, d2, hL⟩ := hX t t.isLt hf
  rw [Pipeline.RDat.withAfter_after, Function.update_self, hL]
  have hs := size3 t
  have h0 : (y 0).val < min 4096 (100000 - t.val * 4096) := by
    have := (y 0).isLt
    exact this.trans_eq (congrFun hs 0)
  have h1 : (y 1).val < 1024 := by
    have := (y 1).isLt
    exact this.trans_eq (congrFun hs 1)
  have hv : t.val * 4096 + (y 0).val < 100000 := by omega
  have hy : (cfg1.win 3).xinj (cfg1.grid.coords t) y = (ix2 (⟨(y 0).val, by omega⟩ : Fin 4096) (⟨(y 1).val, h1⟩ : Fin 1024) : S4096x1024.Idx) := by
    funext a
    match a with
    | ⟨0, _⟩ => rfl
    | ⟨1, _⟩ => rfl
  have he : (win1_3.blk t).view.emb y = (ix2 (⟨t.val * 4096 + (y 0).val, hv⟩ : Fin 100000) (⟨(y 1).val, h1⟩ : Fin 1024) : S100000x1024.Idx) := by
    blk_ext [index3]
  refine Eq.trans ?_ (congrArg (proj V c) he).symm
  refine (congrArg (k1_pay1 (stg V c 0 t d0) (stg V c 1 t d1) (stg V c 2 t d2)) hy).trans ?_
  refine (pay_apply _ _ _ _ _).trans ?_
  rw [stg2_apply V c t d2 _ hv]
  refine congrArg (· + _) (Finset.sum_congr rfl fun k _ => ?_)
  rw [stg0_apply V c t d0 k _ hv, stg1_apply V c t d1 _ k]
  rfl

/-! ## The result -/

variable (m : (ℓ : Loc nD τ sig) → Buf (Elt Ideal) ℓ)

/-- The bias as a row, the transposed weight and the gathered rows, as the region finds them. -/
theorem VR_bias (d : Dev nD) (v : Fin 100000) :
    (VR m d main_v1 : FVec Ideal S1x100000 .f32) (ix2 (0 : Fin 1) v) = (m ((SparseCore.T d).loc main_arg3) : FVec Ideal S100000 .f32) (ix1 v) := by
  have e : (VR m d main_v1 : FVec Ideal S1x100000 .f32) = shapeCast S1x100000 (m ((SparseCore.T d).loc main_arg3) : FVec Ideal S100000 .f32) shapeCasts_S100000_S1x100000 := by
    unfold VR
    rw [V3_ne m d _ (by decide)]
    refine (StableHlo.reshape_result ..).trans ?_
    exact congrArg (fun z : FVec Ideal S100000 .f32 => shapeCast S1x100000 z shapeCasts_S100000_S1x100000) (V1_ne m d rBias (by decide))
  rw [e]
  refine shapeCast_apply (s := S100000) (t := S1x100000) _ shapeCasts_S100000_S1x100000 _ (ix1 v) ?_
  rw [Shape.rowMajor_val_two, Shape.rowMajor_val_one]
  show v.val = 0 * 100000 + v.val
  omega

/-- The region's weight is the transposed argument. -/
theorem VR_wgt (d : Dev nD) (v : Fin 100000) (k : Fin 64) :
    (VR m d main_v2 : FVec Ideal S64x100000 .f32) (ix2 k v) = (m ((SparseCore.T d).loc main_arg2) : FVec Ideal S100000x64 .f32) (ix2 v k) := by
  have e : (VR m d main_v2 : FVec Ideal S64x100000 .f32) = transpose S64x100000 [1, 0] (m ((SparseCore.T d).loc main_arg2) : FVec Ideal S100000x64 .f32) transposes_S100000x64_S64x100000_1_0 := by
    unfold VR
    refine (StableHlo.unary_result ..).trans ?_
    exact congrArg (fun z : FVec Ideal S100000x64 .f32 => transpose S64x100000 [1, 0] z transposes_S100000x64_S64x100000_1_0)
      ((V2_ne m d rWgt (by decide)).trans (V1_ne m d rWgt (by decide)))
  rw [e]
  pointwise

variable {m} (h : ∀ (d : Dev nD) (n : S1024.Idx), ((m (iLoc d) : IVec S1024 32) n).toNat < 100000)
include h

/-- The region's rows are the table's rows at the indices. -/
theorem VR_emb (d : Dev nD) (b : Fin 1024) (k : Fin 64) :
    (VR m d main_v0 : FVec Ideal S1024x64 .f32) (ix2 b k)
      = (m (tLoc d) : FVec Ideal S100000x64 .f32) (ix2 ⟨((m (iLoc d) : IVec S1024 32) (ix1 b)).toNat, h d _⟩ k) := by
  have e : (VR m d main_v0 : FVec Ideal S1024x64 .f32) = gath m d := by
    unfold VR
    rw [V3_ne m d _ (by decide), V2_ne m d _ (by decide)]
    exact V1_emb m d
  rw [e]
  have hi : iIdx b.val b.isLt = (ix1 b : S1024.Idx) := by
    funext a
    match a with
    | ⟨0, _⟩ => rfl
  refine congrArg (m (tLoc d) : S100000x64.Idx → EReal) ?_
  funext a
  match a with
  | ⟨0, _⟩ =>
    refine Fin.ext ?_
    show min ((m (iLoc d) : IVec S1024 32) (iIdx b.val b.isLt)).toNat 99999 = ((m (iLoc d) : IVec S1024 32) (ix1 b)).toNat
    rw [hi]
    exact Nat.min_eq_left (Nat.le_of_lt_succ (h d _))
  | ⟨1, _⟩ => rfl

/-- The program's result is the array both compute. -/
theorem result_eq (d : Dev nD) (g : Buf (Elt Ideal) (pLoc d)) (hg : Projected (VR m) d g) :
    (V5 m d g rOut : FVec Ideal S1024x100000 .f32)
      = logits (m (iLoc d)) (m (tLoc d)) (m ((SparseCore.T d).loc main_arg2)) (m ((SparseCore.T d).loc main_arg3)) (h d) := by
  have e : (V5 m d g rOut : FVec Ideal S1024x100000 .f32) = transpose S1024x100000 [1, 0] (g : FVec Ideal S100000x1024 .f32) transposes_S100000x1024_S1024x100000_1_0 := by
    refine (StableHlo.unary_result ..).trans ?_
    exact congrArg (fun z : FVec Ideal S100000x1024 .f32 => transpose S1024x100000 [1, 0] z transposes_S100000x1024_S1024x100000_1_0) (V4_out m d g)
  rw [e]
  funext j
  obtain ⟨b, v, rfl⟩ : ∃ (b : Fin 1024) (v : Fin 100000), j = ix2 b v := ⟨j 0, j 1, by
    funext x
    match x with
    | ⟨0, _⟩ => rfl
    | ⟨1, _⟩ => rfl⟩
  have e' : transpose S1024x100000 [1, 0] (g : FVec Ideal S100000x1024 .f32) transposes_S100000x1024_S1024x100000_1_0 (ix2 b v) = (g : FVec Ideal S100000x1024 .f32) (ix2 v b) := by
    pointwise
  refine e'.trans ?_
  rw [projected_eq (VR m) d g hg]
  refine congrArg₂ (· + ·) (Finset.sum_congr rfl fun k _ => ?_) (VR_bias m d v)
  refine (congrArg₂ (fun x y : EReal => x * y) (VR_wgt m d v k) (VR_emb h d b k)).trans ?_
  exact mul_comm _ _

end Cert.Proof

end
-- ==== Proof.Ref.lean ====
/-
  What the reference computes, read element by element, and the reference's run with every semaphore at zero.
-/
module

public import Idealize.ShloMosaic.Lib.ReduceAll
public import Idealize.ShloMosaic.Lib.Quiescent
public import Idealize.ShloMosaic.Lib.ValueIdx
public import Idealize.ShloMosaic.Lib.StackMember
public import Idealize.ShloMosaic.Lib.Routing.Ops
public import Idealize.ShloMosaic.Lib.StableHlo.Predicate
public import Idealize.ShloMosaic.Lib.Pointwise
public import proofs.«01_k».proof.Proof.Pre
public import proofs.«01_k».proof.Proof.Gen.ReferenceIdeal
public import proofs.«01_k».proof.Proof.Gen.ReferenceIdeal.Run

@[expose] public section

noncomputable section

namespace Cert.Proof.Ref

open Cert.ReferenceIdeal Cert.ReferenceIdeal.Gen
open Idealize.ShloMosaic Idealize.ShloMosaic.TcCoe Idealize.SL.Sem

/-! ## The looked-up rows -/

section Rows

variable {F : FTy → Type} [FloatOps F] (ids : IVec S1024 32) (tab : FVec F S100000x64 .f32)

/-- The indices as the lookup takes them: a negative index counted from the table's end, in a column. -/
def col : IVec S1024x1 32 := broadcastInDim S1024x1 ![0] bcast_S1024_S1024x1_0 (select (cmpi .slt ids (broadcastInDim S1024 ![] bcast_S_S1024 (constantI S_ 32 0#32))) (addi ids (broadcastInDim S1024 ![] bcast_S_S1024 (constantI S_ 32 100000#32))) ids)

/-- Whether each index is inside the table. -/
def inside : IVec S1024 1 := Host.reduce IntOp.andi (andi (cmpi .sge (col ids) (broadcastInDim S1024x1 ![] bcast_S_S1024x1 (constantI S_ 32 0#32))) (cmpi .sle (col ids) (broadcastInDim S1024x1 ![0, 1] bcast_S1x1_S1024x1_0_1 (broadcastInDim S1x1 ![1] bcast_S1_S1x1_1 (constantI S1 32 99999#32))))) (constantI S_ 1 1#1) reducesTo_S1024x1_S1024_d1 h_S_

/-- The rows looked up: the table's row where the index is inside the table, not a number where it is not. -/
def rows : FVec F S1024x64 .f32 := select (broadcastInDim S1024x64 ![0] bcast_S1024_S1024x64_0 (inside ids)) (Host.gather gather_S100000x64_S1024x1_S1024x64_1_0_n_n_0_1_164 tab (col ids)) (broadcastInDim S1024x64 ![] bcast_S_S1024x64 (constant S_ .f32 0x7FC00000#32))

variable {ids} (h : ∀ n : S1024.Idx, (ids n).toNat < 100000)
include h

/-- An index in the table stands in the column as it is. -/
theorem col_eq (n : Fin 1024) : col ids (ix2 n (0 : Fin 1)) = ids (ix1 n) := by
  have h1 := h (ix1 n)
  have e : col ids (ix2 n (0 : Fin 1)) = Scalar.select (IntOp.cmpi .slt (ids (ix1 n)) 0#32) (IntOp.addi (ids (ix1 n)) 100000#32) (ids (ix1 n)) := by
    unfold col; pointwise
  have hs : ¬ IntOp.cmpi .slt (ids (ix1 n)) 0#32 = 1#1 := by
    rw [StableHlo.Predicate.slt_iff_toNat (by omega) (by decide)]
    exact Nat.not_lt_zero _
  exact e.trans (if_neg hs)

/-- Every index is inside the table. -/
theorem inside_eq (n : S1024.Idx) : inside ids n = 1#1 := by
  unfold inside
  refine Host.reduce_andi_one _ _ _ _ _ rfl fun i => ?_
  obtain ⟨a, rfl⟩ : ∃ a : Fin 1024, i = ix2 a (0 : Fin 1) := ⟨i 0, by
    funext x
    match x with
    | ⟨0, _⟩ => rfl
    | ⟨1, _⟩ => exact Subsingleton.elim (α := Fin 1) _ _⟩
  have h1 := h (ix1 a)
  have e : (andi (cmpi .sge (col ids) (broadcastInDim S1024x1 ![] bcast_S_S1024x1 (constantI S_ 32 0#32))) (cmpi .sle (col ids) (broadcastInDim S1024x1 ![0, 1] bcast_S1x1_S1024x1_0_1 (broadcastInDim S1x1 ![1] bcast_S1_S1x1_1 (constantI S1 32 99999#32))))) (ix2 a (0 : Fin 1))
      = IntOp.andi (IntOp.cmpi .sge (ids (ix1 a)) 0#32) (IntOp.cmpi .sle (ids (ix1 a)) 99999#32) := by
    rw [← col_eq h a]; pointwise
  rw [e]
  refine IntOp.andi_eq_one.2 ⟨?_, ?_⟩
  · rw [StableHlo.Predicate.sge_iff_toNat (by omega) (by decide)]
    exact Nat.zero_le _
  · rw [StableHlo.Predicate.sle_iff_toNat (by omega) (by decide)]
    exact Nat.le_of_lt_succ h1

/-- The rows looked up are the table's rows at the indices. -/
theorem rows_apply (n : Fin 1024) (k : Fin 64) : rows ids tab (ix2 n k) = tab (ix2 ⟨(ids (ix1 n)).toNat, h _⟩ k) := by
  have e : rows ids tab (ix2 n k) = Scalar.select (inside ids (ix1 n)) (Host.gather gather_S100000x64_S1024x1_S1024x64_1_0_n_n_0_1_164 tab (col ids) (ix2 n k)) (FloatOps.ofBits .f32 0x7FC00000#32) := by
    unfold rows; pointwise
  refine e.trans ((if_pos (inside_eq h _)).trans ?_)
  refine Routing.gather_row _ rfl rfl rfl rfl rfl tab (col ids) n k ⟨(ids (ix1 n)).toNat, h _⟩ ?_ (by decide)
  exact (col_eq h n).trans (by simp)

end Rows

/-- The reference's result at row `b` and column `v`: the looked-up row against the weight's row `v`, and the bias. -/
theorem result_apply (ids : IVec S1024 32) (tab wgt : FVec Ideal S100000x64 .f32) (bias : FVec Ideal S100000 .f32)
    (h : ∀ n : S1024.Idx, (ids n).toNat < 100000) (b : Fin 1024) (v : Fin 100000) :
    (addf (Host.dotGeneral dot_S1024x64_S64x100000_S1024x100000_1_0_0_1_n_n none (rows ids tab) (transpose S64x100000 [1, 0] wgt transposes_S100000x64_S64x100000_1_0)) (broadcastInDim S1024x100000 ![0, 1] bcast_S1x100000_S1024x100000_0_1 (broadcastInDim S1x100000 ![1] bcast_S100000_S1x100000_1 bias))) (ix2 b v)
      = (∑ k : Fin 64, tab (ix2 ⟨(ids (ix1 b)).toNat, h _⟩ k) * wgt (ix2 v k)) + bias (ix1 v) := by
  have e : (addf (Host.dotGeneral dot_S1024x64_S64x100000_S1024x100000_1_0_0_1_n_n none (rows ids tab) (transpose S64x100000 [1, 0] wgt transposes_S100000x64_S64x100000_1_0)) (broadcastInDim S1024x100000 ![0, 1] bcast_S1x100000_S1024x100000_0_1 (broadcastInDim S1x100000 ![1] bcast_S100000_S1x100000_1 bias))) (ix2 b v) = Host.dotGeneral (DotDims.plain 1024 64 100000) none (rows ids tab) (transpose S64x100000 [1, 0] wgt transposes_S100000x64_S64x100000_1_0) (ix2 b v) + bias (ix1 v) := by
    pointwise
  refine e.trans (congrArg (· + _) ?_)
  refine (StackMember.dotGeneral_plain_apply none (rows ids tab) _ b v).trans (Finset.sum_congr rfl fun k _ => ?_)
  refine congrArg₂ (· * ·) (rows_apply tab h b k) ?_
  pointwise

/-- The reference's result is the array both compute. -/
theorem result_eq (ids : IVec S1024 32) (tab wgt : FVec Ideal S100000x64 .f32) (bias : FVec Ideal S100000 .f32)
    (h : ∀ n : S1024.Idx, (ids n).toNat < 100000) :
    addf (Host.dotGeneral dot_S1024x64_S64x100000_S1024x100000_1_0_0_1_n_n none (rows ids tab) (transpose S64x100000 [1, 0] wgt transposes_S100000x64_S64x100000_1_0)) (broadcastInDim S1024x100000 ![0, 1] bcast_S1x100000_S1024x100000_0_1 (broadcastInDim S1x100000 ![1] bcast_S100000_S1x100000_1 bias)) = logits ids tab wgt bias h := by
  funext j
  obtain ⟨b, v, rfl⟩ : ∃ (b : Fin 1024) (v : Fin 100000), j = ix2 b v := ⟨j 0, j 1, by
    funext x
    match x with
    | ⟨0, _⟩ => rfl
    | ⟨1, _⟩ => rfl⟩
  exact result_apply ids tab wgt bias h b v

/-- The reference runs; its result is the composed term of its arguments, which are unchanged, and every semaphore is
    at zero. -/
theorem run_sems (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2, sem_eq_zero_of_no_sems rfl r.2⟩) (Cert.ReferenceIdeal.Value.run m ρ)

end Cert.Proof.Ref

end
-- ==== Proof.lean ====
/-
  The claims of this certificate, from the modules beside it: the program's run over any float values (`run_main`), which gives
  the frame of the program as printed and of its idealization; the reference's run; and, at exact values, that both leave the
  same array (`result_eq` and `Ref.result_eq`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ids_in_vocab
public import proofs.«01_k».proof.Proof.Run
public import proofs.«01_k».proof.Proof.Value
public import proofs.«01_k».proof.Proof.Ref

@[expose] public section

noncomputable section

namespace Cert.Proof

open Idealize.ShloMosaic Idealize.SL.Sem Cert.KernelIdeal

/-- A memory whose indices meet the precondition, over any float values. -/
theorem preOK_of {F : FTy → Type} {m : (ℓ : Loc nD τ sig) → Buf (Elt F) ℓ} (h : ∀ (d : Dev nD) (n : S1024.Idx), ((m (iLoc d) : IVec S1024 32) n).toNat < 100000) :
    PreOK m := fun d n hn => h d (iIdx n hn)

/-- Over any float values the program runs, its arguments are unchanged and every semaphore ends at zero. -/
theorem run_frame {F : FTy → Type} [FloatOps F] [∀ e, Nonempty (Elt F e)] (m : (ℓ : Loc nD τ sig) → Buf (Elt F) ℓ) (ρ : Dev nD → PrngReg)
    (h : ∀ (d : Dev nD) (n : S1024.Idx), ((m (iLoc d) : IVec S1024 32) n).toNat < 100000) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run Cert.KernelIdeal.defs _ _).mono (fun r hr => ⟨fun c => by
      obtain ⟨g, -, hb⟩ := hr.1 c
      exact ⟨(hb rIds (by decide)).trans (V5_arg m c g rIds (by decide) (by decide) (by decide) (by decide) (by decide)),
        (hb rTab (by decide)).trans (V5_arg m c g rTab (by decide) (by decide) (by decide) (by decide) (by decide)),
        (hb rWgt (by decide)).trans (V5_arg m c g rWgt (by decide) (by decide) (by decide) (by decide) (by decide)),
        (hb rBias (by decide)).trans (V5_arg m c g rBias (by decide) (by decide) (by decide) (by decide) (by decide))⟩, hr.2⟩)
    (run_main m ρ (preOK_of h))

/-- The kernels' bodies of the program as printed are its idealization's: no operation of it was rewritten. -/
theorem bodies_eq {F : FTy → Type} [FloatOps F] : Cert.Kernel.defs₀ (F := F) = Cert.KernelIdeal.defs₀ := by
  funext p ℓ a
  match p, ℓ, a with
  | .tc, ⟨0, _⟩, _ => rfl
  | .tc, ⟨1, _⟩, _ => rfl
  | .scScalar _, ⟨0, _⟩, _ => rfl
  | .scScalar _, ⟨1, _⟩, _ => rfl
  | .scVector _ _, ⟨0, _⟩, _ => rfl
  | .scVector _ _, ⟨1, _⟩, _ => rfl

/-- So are all its bodies. -/
theorem defs_eq {F : FTy → Type} [FloatOps F] : Cert.Kernel.defs (F := F) = Cert.KernelIdeal.defs :=
  congrArg (fun x => Cert.KernelIdeal.sc.defs (Pipeline.defs Cert.KernelIdeal.pcfgs x)) bodies_eq

/-- The program as printed runs, its arguments are unchanged and every semaphore ends at zero. -/
theorem frame_kernel : Cert.quiescent_Kernel := fun m ρ hp => by
  have h := run_frame (F := Bits) m ρ fun d n => ids_lt (hp d) n
  rw [← defs_eq] at h
  exact h

/-- Its idealization runs, its arguments are unchanged and every semaphore ends at zero. -/
theorem frame_kernelIdeal : Cert.quiescent_KernelIdeal := fun m ρ hp => run_frame (F := Ideal) m ρ fun d n => ids_lt (hp d) n

/-- The reference runs, its arguments are unchanged and every semaphore ends at zero. -/
theorem frame_reference : Cert.quiescent_ReferenceIdeal := fun m ρ _ => Ref.run_sems m ρ

/-- The same under the precondition. -/
theorem frame_reference_pre : Cert.quiescent_ReferenceIdeal_pre_ids_in_vocab := fun m ρ _ => Ref.run_sems m ρ

/-- At exact values, from the same arguments, the program and the reference leave the same array. -/
theorem same_result : Cert.algebraic_KernelIdeal_ReferenceIdeal := fun m ρ m' ρ' hp hm => by
  have h : ∀ (d : Dev nD) (n : S1024.Idx), ((m (iLoc d) : IVec S1024 32) n).toNat < 100000 := fun d n => ids_lt (hp d) n
  refine ⟨fun c => (logits (m (iLoc c)) (m (tLoc c)) (m ((SparseCore.T c).loc main_arg2)) (m ((SparseCore.T c).loc main_arg3)) (h c) : FVec Ideal S1024x100000 .f32), ?_, ?_⟩
  · refine (θ_run Cert.KernelIdeal.defs _ _).mono (fun r hr c => ?_) (run_main (F := Ideal) m ρ (preOK_of h))
    obtain ⟨g, hg, hb⟩ := hr.1 c
    exact ⟨(hb rOut (by decide)).trans (result_eq h c g hg),
      (hb rIds (by decide)).trans (V5_arg m c g rIds (by decide) (by decide) (by decide) (by decide) (by decide)),
      (hb rTab (by decide)).trans (V5_arg m c g rTab (by decide) (by decide) (by decide) (by decide) (by decide)),
      (hb rWgt (by decide)).trans (V5_arg m c g rWgt (by decide) (by decide) (by decide) (by decide) (by decide)),
      (hb rBias (by decide)).trans (V5_arg m c g rBias (by decide) (by decide) (by decide) (by decide) (by decide))⟩
  · refine (θ_run Cert.ReferenceIdeal.defs _ _).mono (fun r hr c => ?_) (Cert.ReferenceIdeal.Value.run m' ρ')
    refine ⟨(hr c).1.trans ?_, (hr c).2⟩
    obtain ⟨h0, h1, h2, h3⟩ := hm c
    rw [h0, h1, h2, h3]
    exact Ref.result_eq _ _ _ _ (h c)

/-- All the claims of the certificate. -/
theorem claim : Cert.Claim := ⟨Cert.Kernel.Gen.facts, Cert.KernelIdeal.Gen.facts, Cert.ReferenceIdeal.Gen.facts, Cert.Pre_ids_in_vocab.Gen.facts,
  frame_kernel, frame_kernelIdeal, frame_reference, frame_reference_pre, trivial, same_result⟩

end Cert.Proof

end
